-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_labels [hPre_binary_labels : Cert.Pre_binary_labels.Facts] (m : (ℓ : Loc Cert.KernelIdeal.nD Cert.KernelIdeal.τ Cert.KernelIdeal.sig) → Buf (Elt Ideal) ℓ) : Prop :=
  ∀ c : Dev Cert.KernelIdeal.nD,
    (Cert.Pre_binary_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_labels [hPre_binary_labels : Cert.Pre_binary_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_binary_labels [hKernelIdeal : Cert.KernelIdeal.Facts] [hPre_binary_labels : Cert.Pre_binary_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_labels m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_binary_labels [hReferenceIdeal : Cert.ReferenceIdeal.Facts] [hPre_binary_labels : Cert.Pre_binary_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_binary_labels [hKernelIdeal : Cert.KernelIdeal.Facts] [hReferenceIdeal : Cert.ReferenceIdeal.Facts] [hPre_binary_labels : Cert.Pre_binary_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_close_pre_binary_labels [hKernelIdeal : Cert.KernelIdeal.Facts] [hPre_binary_labels : Cert.Pre_binary_labels.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_labels m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def Claim : Prop :=
  ∃ (hKernel : Cert.Kernel.Facts) (hKernelIdeal : Cert.KernelIdeal.Facts) (hReferenceIdeal : Cert.ReferenceIdeal.Facts) (hPre_binary_labels : Cert.Pre_binary_labels.Facts) (hPost_close : Cert.Post_close.Facts),
    quiescent_Kernel (hKernel := hKernel)
    ∧ quiescent_KernelIdeal (hKernelIdeal := hKernelIdeal)
    ∧ quiescent_KernelIdeal_pre_binary_labels (hKernelIdeal := hKernelIdeal) (hPre_binary_labels := hPre_binary_labels)
    ∧ quiescent_ReferenceIdeal (hReferenceIdeal := hReferenceIdeal)
    ∧ quiescent_ReferenceIdeal_pre_binary_labels (hReferenceIdeal := hReferenceIdeal) (hPre_binary_labels := hPre_binary_labels)
    ∧ preserves_Kernel_KernelIdeal
    ∧ algebraic_KernelIdeal_ReferenceIdeal_pre_binary_labels (hKernelIdeal := hKernelIdeal) (hReferenceIdeal := hReferenceIdeal) (hPre_binary_labels := hPre_binary_labels)
    ∧ holds_KernelIdeal_close_pre_binary_labels (hKernelIdeal := hKernelIdeal) (hPre_binary_labels := hPre_binary_labels) (hPost_close := hPost_close)
-- ==== Post_close.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn_softplus {F : FTy → Type} [FloatOps F] (arg0 : FVec F S32x512x512 .f32) : FVec F S32x512x512 .f32 :=
  let cst : FVec F S_ .f32 := constant S_ .f32 0x00000000#32
  let v0 : FVec F S32x512x512 .f32 := broadcastInDim S32x512x512 ![] bcast_S_S32x512x512 cst
  let v1 : FVec F S32x512x512 .f32 := maximumf arg0 v0
  let v2 : FVec F S32x512x512 .f32 := broadcastInDim S32x512x512 ![] bcast_S_S32x512x512 cst
  let v3 : FVec F S32x512x512 .f32 := subf arg0 v2
  let v4 : IVec S32x512x512 1 := cmpf .une v3 v3
  let v5 : FVec F S32x512x512 .f32 := broadcastInDim S32x512x512 ![] bcast_S_S32x512x512 cst
  let v6 : FVec F S32x512x512 .f32 := addf arg0 v5
  let v7 : FVec F S32x512x512 .f32 := Host.absf v3
  let v8 : FVec F S32x512x512 .f32 := Host.negf v7
  let v9 : FVec F S32x512x512 .f32 := Host.exp v8
  let v10 : FVec F S32x512x512 .f32 := Host.log1p v9
  let v11 : FVec F S32x512x512 .f32 := addf v1 v10
  let v12 : FVec F S32x512x512 .f32 := select v4 v6 v11
  v12

def fn_part1 {F : FTy → Type} [FloatOps F] (main_arg2 : FVec F S_ .f32) (main_v16 : FVec F S_ .f32) (main_v17 : FVec F S32x512x512 .f32) : IVec S_ 1 :=
  let main_cst_5 : FVec F S_ .f32 := constant S_ .f32 0x00000000#32
  let main_v18 : FVec F S_ .f32 := (fun x v => Host.reduceAdd x v reducesTo_S32x512x512_S_d0_1_2 h_S_) main_v17 main_cst_5
  let main_v19 : FVec F S_ .f32 := Host.divf main_v18 main_v16
  let main_cst_6 : FVec F S_ .f32 := constant S_ .f32 0x41A00000#32
  let main_v20 : FVec F S_ .f32 := Host.divf main_v19 main_cst_6
  let main_v21 : FVec F S_ .f32 := subf main_arg2 main_v20
  let main_v22 : FVec F S_ .f32 := Host.absf main_v21
  let main_v23 : FVec F S_ .f32 := Host.absf main_v20
  let main_cst_7 : FVec F S_ .f32 := constant S_ .f32 0x358637BD#32
  let main_v24 : FVec F S_ .f32 := mulf main_cst_7 main_v23
  let main_cst_8 : FVec F S_ .f32 := constant S_ .f32 0x399D4952#32
  let main_v25 : FVec F S_ .f32 := addf main_cst_8 main_v24
  let main_v26 : IVec S_ 1 := cmpf .ole main_v22 main_v25
  main_v26

def fn {F : FTy → Type} [FloatOps F] (main_arg0 : FVec F S32x512x512 .f32) (main_arg1 : FVec F S32x512x512 .f32) (main_arg2 : FVec F S_ .f32) : IVec S_ 1 :=
  let main_cst : FVec F S_ .f32 := constant S_ .f32 0x437F0000#32
  let main_v0 : FVec F S32x512x512 .f32 := broadcastInDim S32x512x512 ![] bcast_S_S32x512x512 main_cst
  let main_v1 : IVec S32x512x512 1 := cmpf .une main_arg1 main_v0
  let main_v2 : FVec F S32x512x512 .f32 := uitofp .f32 main_v1
  let main_v3 : FVec F S32x512x512 .f32 := Host.negf main_arg0
  let main_v4 : FVec F S32x512x512 .f32 := fn_softplus (F := F) main_v3
  let main_cst_0 : FVec F S_ .f32 := constant S_ .f32 0x3F800000#32
  let main_v5 : FVec F S32x512x512 .f32 := broadcastInDim S32x512x512 ![] bcast_S_S32x512x512 main_cst_0
  let main_v6 : FVec F S32x512x512 .f32 := subf main_v5 main_arg1
  let main_v7 : FVec F S32x512x512 .f32 := mulf main_v6 main_arg0
  let main_cst_1 : FVec F S_ .f32 := constant S_ .f32 0x41980000#32
  let main_v8 : FVec F S32x512x512 .f32 := broadcastInDim S32x512x512 ![] bcast_S_S32x512x512 main_cst_1
  let main_v9 : FVec F S32x512x512 .f32 := mulf main_v8 main_arg1
  let main_cst_2 : FVec F S_ .f32 := constant S_ .f32 0x3F800000#32
  let main_v10 : FVec F S32x512x512 .f32 := broadcastInDim S32x512x512 ![] bcast_S_S32x512x512 main_cst_2
  let main_v11 : FVec F S32x512x512 .f32 := subf main_v10 main_arg1
  let main_v12 : FVec F S32x512x512 .f32 := addf main_v9 main_v11
  let main_v13 : FVec F S32x512x512 .f32 := mulf main_v12 main_v4
  let main_v14 : FVec F S32x512x512 .f32 := addf main_v7 main_v13
  let main_cst_3 : FVec F S_ .f32 := constant S_ .f32 0x00000000#32
  let main_v15 : FVec F S_ .f32 := (fun x v => Host.reduceAdd x v reducesTo_S32x512x512_S_d0_1_2 h_S_) main_v2 main_cst_3
  let main_cst_4 : FVec F S_ .f32 := constant S_ .f32 0x3F800000#32
  let main_v16 : FVec F S_ .f32 := maximumf main_v15 main_cst_4
  let main_v17 : FVec F S32x512x512 .f32 := mulf main_v14 main_v2
  fn_part1 (F := F) main_arg2 main_v16 main_v17
-- ==== Pre_binary_labels.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)

variable [Facts]

def fn {F : FTy → Type} [FloatOps F] (main_arg0 : FVec F S32x512x512 .f32) (main_arg1 : FVec F S32x512x512 .f32) : IVec S32x512x512 1 :=
  let main_cst : FVec F S_ .f32 := constant S_ .f32 0x00000000#32
  let main_v0 : FVec F S32x512x512 .f32 := broadcastInDim S32x512x512 ![] bcast_S_S32x512x512 main_cst
  let main_v1 : IVec S32x512x512 1 := cmpf .oeq main_arg1 main_v0
  let main_cst_0 : FVec F S_ .f32 := constant S_ .f32 0x3F800000#32
  let main_v2 : FVec F S32x512x512 .f32 := broadcastInDim S32x512x512 ![] bcast_S_S32x512x512 main_cst_0
  let main_v3 : IVec S32x512x512 1 := cmpf .oeq main_arg1 main_v2
  let main_v4 : IVec S32x512x512 1 := ori main_v1 main_v3
  let main_v5 : FVec F S32x512x512 .f32 := Host.absf main_arg0
  let main_cst_1 : FVec F S_ .f32 := constant S_ .f32 0x7F800000#32
  let main_v6 : FVec F S32x512x512 .f32 := broadcastInDim S32x512x512 ![] bcast_S_S32x512x512 main_cst_1
  let main_v7 : IVec S32x512x512 1 := cmpf .olt main_v5 main_v6
  let main_v8 : IVec S32x512x512 1 := andi main_v4 main_v7
  main_v8
-- ==== Kernel.lean ====
abbrev S32x512x512 : Shape := ⟨3, ![32, 512, 512]⟩
abbrev S1x1 : Shape := ⟨2, ![1, 1]⟩
abbrev S2x512x512 : Shape := ⟨3, ![2, 512, 512]⟩
abbrev S1x512 : Shape := ⟨2, ![1, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S32x16 : Shape := ⟨2, ![32, 16]⟩
abbrev S64x512 : Shape := ⟨2, ![64, 512]⟩
abbrev S16 : Shape := ⟨1, ![16]⟩
abbrev S_ : Shape := ⟨0, ![]⟩
abbrev S32x512 : Shape := ⟨2, ![32, 512]⟩
abbrev S1x32x512 : Shape := ⟨3, ![1, 32, 512]⟩
abbrev S1x16 : Shape := ⟨2, ![1, 16]⟩

abbrev nBuf : Table → Nat
  | .hbm => 10
  | .local .tc .vmem => 5
  | .local .tc .smem => 1
  | .local .scVector .vmem => 3
  | _ => 0

abbrev bufTy : (tb : Table) → Fin (nBuf tb) → BufTy
  | .hbm, ⟨0, _⟩ => ⟨S32x512x512, .f32⟩
  | .hbm, ⟨1, _⟩ => ⟨S32x512x512, .f32⟩
  | .hbm, ⟨2, _⟩ => ⟨S1x1, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local .tc .vmem, ⟨0, _⟩ => ⟨S2x512x512, .f32⟩
  | .local .tc .vmem, ⟨1, _⟩ => ⟨S2x512x512, .f32⟩
  | .local .tc .vmem, ⟨2, _⟩ => ⟨S2x512x512, .f32⟩
  | .local .tc .vmem, ⟨3, _⟩ => ⟨S2x512x512, .f32⟩
  | .local .tc .vmem, ⟨4, _⟩ => ⟨S1x512, .f32⟩
  | .local .tc .smem, ⟨0, _⟩ => ⟨S1x1, .f32⟩
  | .local .scVector .vmem, ⟨0, _⟩ => ⟨S64x512, .f32⟩
  | .local .scVector .vmem, ⟨1, _⟩ => ⟨S64x512, .f32⟩
  | .local .scVector .vmem, ⟨2, _⟩ => ⟨S16, .f32⟩
  | _, _ => ⟨S32x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_arg0_scv : Ref sig .scVector := ⟨.hbm, 0, rfl⟩
abbrev main_arg1_scv : Ref sig .scVector := ⟨.hbm, 1, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v27 : BitVec 1 := Scalar.cmpi .eq arg0 c10_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 3 → Nat :=
  let c352_i32 : BitVec 32 := 352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 32 := Scalar.muli v1 c5_i32
  let v3 : BitVec 32 := Scalar.addi c352_i32 v2
  let c0_i32 : BitVec 32 := 0#32
  let v5 : BitVec 32 := Scalar.addi v3 c0_i32
  let c0_i32_0 : BitVec 32 := 0#32
  let v7 : BitVec 1 := Scalar.cmpi .sgt v5 c0_i32_0
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c16_i32 : BitVec 32 := 16#32
  let c0_i32_2 : BitVec 32 := 0#32
  let v12 : BitVec 1 := Scalar.cmpi .sgt c16_i32 c0_i32_2
  let v13 : BitVec 32 := Scalar.extui v12
  let c0_i32_3 : BitVec 32 := 0#32
  let v14 : BitVec 1 := Scalar.cmpi .slt c16_i32 c0_i32_3
  let v15 : BitVec 32 := Scalar.extui v14
  let v16 : BitVec 32 := Scalar.subi v13 v15
  let v17 : BitVec 1 := Scalar.cmpi .ne v11 v16
  let v18 : BitVec 32 := Scalar.remsi v5 c16_i32
  let c0_i32_4 : BitVec 32 := 0#32
  let v19 : BitVec 1 := Scalar.cmpi .ne v18 c0_i32_4
  let v20 : BitVec 1 := Scalar.andi v17 v19
  let v6 : BitVec 32 := Scalar.divsi v5 c16_i32
  let c1_i32 : BitVec 32 := 1#32
  let v21 : BitVec 32 := Scalar.subi v6 c1_i32
  let v22 : BitVec 32 := Scalar.select v20 v21 v6
  let c16_i32_5 : BitVec 32 := 16#32
  let c0_i32_6 : BitVec 32 := 0#32
  let v23 : BitVec 1 := Scalar.cmpi .eq c16_i32_5 c0_i32_6
  let c1_i32_7 : BitVec 32 := 1#32
  let v24 : BitVec 32 := Scalar.select v23 c1_i32_7 c16_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c32_i32 : BitVec 32 := 32#32
  let v33 : BitVec 32 := Scalar.muli v32 c32_i32
  let c0_i32_13 : BitVec 32 := 0#32
  ![v22.toNat, v33.toNat, 0]
@[reducible] def k1_t1_loop : Scf.Loop 32 :=
  let c0_i32_23 : BitVec 32 := 0#32
  let c5_i32_24 : BitVec 32 := 5#32
  let v46 : BitVec 32 := Scalar.addi c0_i32_23 c5_i32_24
  let c1_i32_25 : BitVec 32 := 1#32
  ⟨c0_i32_23, v46, c1_i32_25⟩
def k1_cond1 (k1_t1 : Fin k1_t1_loop.trips) : BitVec 1 :=
  let c0_i32_23 : BitVec 32 := 0#32
  let c1_i32_25 : BitVec 32 := 1#32
  let arg10 : BitVec 32 := Scf.iv c0_i32_23 c1_i32_25 k1_t1
  let c2_i32_45 : BitVec 32 := 2#32
  let v64 : BitVec 32 := Scalar.remsi arg10 c2_i32_45
  let c0_i32_47 : BitVec 32 := 0#32
  let v67 : BitVec 1 := Scalar.cmpi .eq v64 c0_i32_47
  let v68 : BitVec 32 := Scalar.extui v67
  let c0_i32_48 : BitVec 32 := 0#32
  let v69 : BitVec 1 := Scalar.cmpi .ne v68 c0_i32_48
  v69

def k1_off2 (i : grid1.Coords) (k1_t1 : Fin k1_t1_loop.trips) : Fin 3 → Nat :=
  let c352_i32 : BitVec 32 := 352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 32 := Scalar.muli v1 c5_i32
  let v3 : BitVec 32 := Scalar.addi c352_i32 v2
  let c0_i32_23 : BitVec 32 := 0#32
  let c1_i32_25 : BitVec 32 := 1#32
  let arg10 : BitVec 32 := Scf.iv c0_i32_23 c1_i32_25 k1_t1
  let c1_i32_46 : BitVec 32 := 1#32
  let v65 : BitVec 32 := Scalar.addi arg10 c1_i32_46
  let c4_i32 : BitVec 32 := 4#32
  let v66 : BitVec 32 := Scalar.minsi v65 c4_i32
  let v76 : BitVec 32 := Scalar.addi v3 v66
  let c0_i32_57 : BitVec 32 := 0#32
  let v78 : BitVec 1 := Scalar.cmpi .sgt v76 c0_i32_57
  let v79 : BitVec 32 := Scalar.extui v78
  let c0_i32_58 : BitVec 32 := 0#32
  let v80 : BitVec 1 := Scalar.cmpi .slt v76 c0_i32_58
  let v81 : BitVec 32 := Scalar.extui v80
  let v82 : BitVec 32 := Scalar.subi v79 v81
  let c16_i32_56 : BitVec 32 := 16#32
  let c0_i32_59 : BitVec 32 := 0#32
  let v83 : BitVec 1 := Scalar.cmpi .sgt c16_i32_56 c0_i32_59
  let v84 : BitVec 32 := Scalar.extui v83
  let c0_i32_60 : BitVec 32 := 0#32
  let v85 : BitVec 1 := Scalar.cmpi .slt c16_i32_56 c0_i32_60
  let v86 : BitVec 32 := Scalar.extui v85
  let v87 : BitVec 32 := Scalar.subi v84 v86
  let v88 : BitVec 1 := Scalar.cmpi .ne v82 v87
  let v89 : BitVec 32 := Scalar.remsi v76 c16_i32_56
  let c0_i32_61 : BitVec 32 := 0#32
  let v90 : BitVec 1 := Scalar.cmpi .ne v89 c0_i32_61
  let v91 : BitVec 1 := Scalar.andi v88 v90
  let v77 : BitVec 32 := Scalar.divsi v76 c16_i32_56
  let c1_i32_62 : BitVec 32 := 1#32
  let v92 : BitVec 32 := Scalar.subi v77 c1_i32_62
  let v93 : BitVec 32 := Scalar.select v91 v92 v77
  let c16_i32_63 : BitVec 32 := 16#32
  let c0_i32_64 : BitVec 32 := 0#32
  let v94 : BitVec 1 := Scalar.cmpi .eq c16_i32_63 c0_i32_64
  let c1_i32_65 : BitVec 32 := 1#32
  let v95 : BitVec 32 := Scalar.select v94 c1_i32_65 c16_i32_63
  let v96 : BitVec 32 := Scalar.remsi v76 v95
  let c0_i32_67 : BitVec 32 := 0#32
  let v98 : BitVec 1 := Scalar.cmpi .slt v96 c0_i32_67
  let c0_i32_68 : BitVec 32 := 0#32
  let v99 : BitVec 1 := Scalar.cmpi .slt v95 c0_i32_68
  let v100 : BitVec 1 := Scalar.xori v98 v99
  let c0_i32_66 : BitVec 32 := 0#32
  let v97 : BitVec 1 := Scalar.cmpi .ne v96 c0_i32_66
  let v101 : BitVec 1 := Scalar.andi v100 v97
  let v102 : BitVec 32 := Scalar.addi v96 v95
  let v103 : BitVec 32 := Scalar.select v101 v102 v96
  let c32_i32_69 : BitVec 32 := 32#32
  let v104 : BitVec 32 := Scalar.muli v103 c32_i32_69
  let c0_i32_72 : BitVec 32 := 0#32
  ![v93.toNat, v104.toNat, 0]
def k1_cond2 (k1_t1 : Fin k1_t1_loop.trips) : BitVec 1 :=
  let c0_i32_23 : BitVec 32 := 0#32
  let c1_i32_25 : BitVec 32 := 1#32
  let arg10 : BitVec 32 := Scf.iv c0_i32_23 c1_i32_25 k1_t1
  let c2_i32_45 : BitVec 32 := 2#32
  let v64 : BitVec 32 := Scalar.remsi arg10 c2_i32_45
  let c1_i32_49 : BitVec 32 := 1#32
  let v70 : BitVec 1 := Scalar.cmpi .eq v64 c1_i32_49
  let v71 : BitVec 32 := Scalar.extui v70
  let c0_i32_50 : BitVec 32 := 0#32
  let v72 : BitVec 1 := Scalar.cmpi .ne v71 c0_i32_50
  v72

def k1_off3 (i : grid1.Coords) (k1_t1 : Fin k1_t1_loop.trips) : Fin 3 → Nat :=
  let c352_i32 : BitVec 32 := 352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 32 := Scalar.muli v1 c5_i32
  let v3 : BitVec 32 := Scalar.addi c352_i32 v2
  let c0_i32_23 : BitVec 32 := 0#32
  let c1_i32_25 : BitVec 32 := 1#32
  let arg10 : BitVec 32 := Scf.iv c0_i32_23 c1_i32_25 k1_t1
  let c1_i32_46 : BitVec 32 := 1#32
  let v65 : BitVec 32 := Scalar.addi arg10 c1_i32_46
  let c4_i32 : BitVec 32 := 4#32
  let v66 : BitVec 32 := Scalar.minsi v65 c4_i32
  let v76 : BitVec 32 := Scalar.addi v3 v66
  let c0_i32_57 : BitVec 32 := 0#32
  let v78 : BitVec 1 := Scalar.cmpi .sgt v76 c0_i32_57
  let v79 : BitVec 32 := Scalar.extui v78
  let c0_i32_58 : BitVec 32 := 0#32
  let v80 : BitVec 1 := Scalar.cmpi .slt v76 c0_i32_58
  let v81 : BitVec 32 := Scalar.extui v80
  let v82 : BitVec 32 := Scalar.subi v79 v81
  let c16_i32_56 : BitVec 32 := 16#32
  let c0_i32_59 : BitVec 32 := 0#32
  let v83 : BitVec 1 := Scalar.cmpi .sgt c16_i32_56 c0_i32_59
  let v84 : BitVec 32 := Scalar.extui v83
  let c0_i32_60 : BitVec 32 := 0#32
  let v85 : BitVec 1 := Scalar.cmpi .slt c16_i32_56 c0_i32_60
  let v86 : BitVec 32 := Scalar.extui v85
  let v87 : BitVec 32 := Scalar.subi v84 v86
  let v88 : BitVec 1 := Scalar.cmpi .ne v82 v87
  let v89 : BitVec 32 := Scalar.remsi v76 c16_i32_56
  let c0_i32_61 : BitVec 32 := 0#32
  let v90 : BitVec 1 := Scalar.cmpi .ne v89 c0_i32_61
  let v91 : BitVec 1 := Scalar.andi v88 v90
  let v77 : BitVec 32 := Scalar.divsi v76 c16_i32_56
  let c1_i32_62 : BitVec 32 := 1#32
  let v92 : BitVec 32 := Scalar.subi v77 c1_i32_62
  let v93 : BitVec 32 := Scalar.select v91 v92 v77
  let c16_i32_63 : BitVec 32 := 16#32
  let c0_i32_64 : BitVec 32 := 0#32
  let v94 : BitVec 1 := Scalar.cmpi .eq c16_i32_63 c0_i32_64
  let c1_i32_65 : BitVec 32 := 1#32
  let v95 : BitVec 32 := Scalar.select v94 c1_i32_65 c16_i32_63
  let v96 : BitVec 32 := Scalar.remsi v76 v95
  let c0_i32_67 : BitVec 32 := 0#32
  let v98 : BitVec 1 := Scalar.cmpi .slt v96 c0_i32_67
  let c0_i32_68 : BitVec 32 := 0#32
  let v99 : BitVec 1 := Scalar.cmpi .slt v95 c0_i32_68
  let v100 : BitVec 1 := Scalar.xori v98 v99
  let c0_i32_66 : BitVec 32 := 0#32
  let v97 : BitVec 1 := Scalar.cmpi .ne v96 c0_i32_66
  let v101 : BitVec 1 := Scalar.andi v100 v97
  let v102 : BitVec 32 := Scalar.addi v96 v95
  let v103 : BitVec 32 := Scalar.select v101 v102 v96
  let c32_i32_69 : BitVec 32 := 32#32
  let v104 : BitVec 32 := Scalar.muli v103 c32_i32_69
  let c0_i32_72 : BitVec 32 := 0#32
  ![v93.toNat, v104.toNat, 0]
@[reducible] def k1_t2_loop : Scf.Loop 32 :=
  let c0_i32_52 : BitVec 32 := 0#32
  let c32_i32_53 : BitVec 32 := 32#32
  let v74 : BitVec 32 := Scalar.addi c0_i32_52 c32_i32_53
  let c1_i32_54 : BitVec 32 := 1#32
  ⟨c0_i32_52, v74, c1_i32_54⟩
@[reducible] def k1_t3_loop : Scf.Loop 32 :=
  let c0_i32_56 : BitVec 32 := 0#32
  let c16_i32_57 : BitVec 32 := 16#32
  let v76 : BitVec 32 := Scalar.addi c0_i32_56 c16_i32_57
  let c1_i32_58 : BitVec 32 := 1#32
  ⟨c0_i32_56, v76, c1_i32_58⟩
def k1_off4 (k1_t1 : Fin k1_t1_loop.trips) (k1_t2 : Fin k1_t2_loop.trips) (k1_t3 : Fin k1_t3_loop.trips) : Fin 2 → Nat :=
  let c0_i32_23 : BitVec 32 := 0#32
  let c1_i32_25 : BitVec 32 := 1#32
  let arg10 : BitVec 32 := Scf.iv c0_i32_23 c1_i32_25 k1_t1
  let c2_i32_45 : BitVec 32 := 2#32
  let v64 : BitVec 32 := Scalar.remsi arg10 c2_i32_45
  let c32_i32_51 : BitVec 32 := 32#32
  let v73 : BitVec 32 := Scalar.muli v64 c32_i32_51
  let c0_i32_52 : BitVec 32 := 0#32
  let c1_i32_54 : BitVec 32 := 1#32
  let arg13 : BitVec 32 := Scf.iv c0_i32_52 c1_i32_54 k1_t2
  let v79 : BitVec 32 := Scalar.addi v73 arg13
  let v80 : Index := Scalar.indexCast v79
  let c0_i32_56 : BitVec 32 := 0#32
  let c1_i32_58 : BitVec 32 := 1#32
  let arg16 : BitVec 32 := Scf.iv c0_i32_56 c1_i32_58 k1_t3
  let c32_i32_60 : BitVec 32 := 32#32
  let v78 : BitVec 32 := Scalar.muli arg16 c32_i32_60
  let v81 : Index := Scalar.indexCast v78
  ![v80.toNat, v81.toNat]
def k1_off5 (k1_t1 : Fin k1_t1_loop.trips) (k1_t2 : Fin k1_t2_loop.trips) (k1_t3 : Fin k1_t3_loop.trips) : Fin 2 → Nat :=
  let c0_i32_23 : BitVec 32 := 0#32
  let c1_i32_25 : BitVec 32 := 1#32
  let arg10 : BitVec 32 := Scf.iv c0_i32_23 c1_i32_25 k1_t1
  let c2_i32_45 : BitVec 32 := 2#32
  let v64 : BitVec 32 := Scalar.remsi arg10 c2_i32_45
  let c32_i32_51 : BitVec 32 := 32#32
  let v73 : BitVec 32 := Scalar.muli v64 c32_i32_51
  let c0_i32_52 : BitVec 32 := 0#32
  let c1_i32_54 : BitVec 32 := 1#32
  let arg13 : BitVec 32 := Scf.iv c0_i32_52 c1_i32_54 k1_t2
  let v113 : BitVec 32 := Scalar.addi v73 arg13
  let v115 : Index := Scalar.indexCast v113
  let c0_i32_56 : BitVec 32 := 0#32
  let c1_i32_58 : BitVec 32 := 1#32
  let arg16 : BitVec 32 := Scf.iv c0_i32_56 c1_i32_58 k1_t3
  let c32_i32_60 : BitVec 32 := 32#32
  let v78 : BitVec 32 := Scalar.muli arg16 c32_i32_60
  let c16_i32_69 : BitVec 32 := 16#32
  let v114 : BitVec 32 := Scalar.addi v78 c16_i32_69
  let v116 : Index := Scalar.indexCast v114
  ![v115.toNat, v116.toNat]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x512x512 : Shape := ⟨3, ![32, 512, 512]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S_, .f32⟩
  | .hbm, ⟨3, _⟩ => ⟨S32x512x512, .f32⟩
  | .hbm, ⟨4, _⟩ => ⟨S32x512x512, .i1⟩
  | .hbm, ⟨5, _⟩ => ⟨S32x512x512, .f32⟩
  | .hbm, ⟨6, _⟩ => ⟨S32x512x512, .f32⟩
  | .hbm, ⟨7, _⟩ => ⟨S32x512x512, .f32⟩
  | .hbm, ⟨8, _⟩ => ⟨S32x512x512, .f32⟩
  | .hbm, ⟨9, _⟩ => ⟨S_, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S32x512x512, .f32⟩
  | .hbm, ⟨21, _⟩ => ⟨S32x512x512, .f32⟩
  | .hbm, ⟨22, _⟩ => ⟨S_, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S32x512x512, .i32⟩
  | .hbm, ⟨27, _⟩ => ⟨S_, .i32⟩
  | .hbm, ⟨28, _⟩ => ⟨S32x512x512, .i32⟩
  | .hbm, ⟨29, _⟩ => ⟨S32x512x512, .i1⟩
  | .hbm, ⟨30, _⟩ => ⟨S32x512x512, .f32⟩
  | .hbm, ⟨31, _⟩ => ⟨S_, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S32x512x512, .f32⟩
  | .hbm, ⟨36, _⟩ => ⟨S32x512x512, .i1⟩
  | .hbm, ⟨37, _⟩ => ⟨S32x512x512, .f32⟩
  | .hbm, ⟨38, _⟩ => ⟨S32x512x512, .f32⟩
  | .hbm, ⟨39, _⟩ => ⟨S32x512x512, .f32⟩
  | .hbm, ⟨40, _⟩ => ⟨S32x512x512, .f32⟩
  | .hbm, ⟨41, _⟩ => ⟨S32x512x512, .f32⟩
  | .hbm, ⟨42, _⟩ => ⟨S32x512x512, .f32⟩
  | .hbm, ⟨43, _⟩ => ⟨S32x512x512, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S32x512x512, .f32⟩
  | .hbm, ⟨48, _⟩ => ⟨S32x512x512, .f32⟩
  | .hbm, ⟨49, _⟩ => ⟨S32x512x512, .f32⟩
  | .hbm, ⟨50, _⟩ => ⟨S32x512x512, .f32⟩
  | .hbm, ⟨51, _⟩ => ⟨S_, .f32⟩
  | .hbm, ⟨52, _⟩ => ⟨S32x512x512, .f32⟩
  | .hbm, ⟨53, _⟩ => ⟨S32x512x512, .f32⟩
  | .hbm, ⟨54, _⟩ => ⟨S32x512x512, .f32⟩
  | .hbm, ⟨55, _⟩ => ⟨S_, .f32⟩
  | .hbm, ⟨56, _⟩ => ⟨S32x512x512, .f32⟩
  | .hbm, ⟨57, _⟩ => ⟨S32x512x512, .f32⟩
  | .hbm, ⟨58, _⟩ => ⟨S_, .f32⟩
  | .hbm, ⟨59, _⟩ => ⟨S32x512x512, .f32⟩
  | .hbm, ⟨60, _⟩ => ⟨S32x512x512, .f32⟩
  | .hbm, ⟨61, _⟩ => ⟨S32x512x512, .f32⟩
  | .hbm, ⟨62, _⟩ => ⟨S32x512x512, .f32⟩
  | .hbm, ⟨63, _⟩ => ⟨S32x512x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32x512x512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== Proof.Setup.lean ====
/-
  The names the proof is stated over: the launch as the SparseCore launch theorem sees it, the ghost state (the handshakes' rounds, the pipeline's
  rounds, the transfers' counters), the buffers, and what the launch hands each tile and takes back.
-/
module

public import proofs.«01_k».proof.Defs
public import Idealize.ShloMosaic.Lib.SparseCore.Quiescent
public import Idealize.ShloMosaic.Lib.SparseCore.Ops
public import Idealize.ShloMosaic.Lib.Batch
public import Idealize.ShloMosaic.Lib.Transfers
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the pipeline's rounds, and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb (U := UU)

instance : (EP (F := F)).LandsIn (upEmb : UEmb _ 𝕄) := inferInstance

/-! ## The buffers -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v1

abbrev xV : Memref sig .scVector .hbm S32x512x512 .f32 := Memref.whole main_arg0_scv
abbrev tV : Memref sig .scVector .hbm S32x512x512 .f32 := Memref.whole main_arg1_scv
abbrev oV : Memref sig .scVector .hbm S32x16 .f32 := Memref.whole main_v1_scv
abbrev bX : Memref sig .scVector .vmem S64x512 .f32 := Memref.whole cc1_scratch0
abbrev bT : Memref sig .scVector .vmem S64x512 .f32 := Memref.whole cc1_scratch1
abbrev bA : Memref sig .scVector .vmem S16 .f32 := Memref.whole cc1_scratch2

/-! ## What a tile computes, over any float values -/

section Values

variable [FloatOps F]

/-- Row `b`, column `c` of image `a`. -/
def at3 (x : S32x512x512.Idx → Elt F .f32) (a b c : ℕ) : Elt F .f32 :=
  x (ValueIdx.ix3 ⟨a % 32, Nat.mod_lt _ (by decide)⟩ ⟨b % 512, Nat.mod_lt _ (by decide)⟩ ⟨c % 512, Nat.mod_lt _ (by decide)⟩)

/-- Sixteen lanes of row `r` of chunk `k` of tile `w`, from column `c`: the chunk is number `352 + 5 w + k` of the 512 chunks of 32 rows. -/
def lanes (x : S32x512x512.Idx → Elt F .f32) (w k r c : ℕ) : Vec F S1x16 .f32 := fun j =>
  at3 x ((352 + 5 * w + k) / 16) ((352 + 5 * w + k) % 16 * 32 + r) (c + (j 1).val)

/-- The two accumulators after the 32 lanes at column `32 c` of row `r` of chunk `k`. -/
def stepAcc (x t : S32x512x512.Idx → Elt F .f32) (w k r c : ℕ) (a : FVec F S16 .f32 × FVec F S16 .f32) : FVec F S16 .f32 × FVec F S16 .f32 :=
  (k1_pay2 a.1 (lanes x w k r (32 * c)) (lanes t w k r (32 * c)),
   k1_pay7 a.2 (k1_pay3 (lanes x w k r (32 * c + 16))) (k1_pay4 (lanes t w k r (32 * c + 16))) (k1_pay5 (lanes x w k r (32 * c + 16))))

/-- After the first `c` column steps of row `r`. -/
def rowAcc (x t : S32x512x512.Idx → Elt F .f32) (w k r : ℕ) : ℕ → FVec F S16 .f32 × FVec F S16 .f32 → FVec F S16 .f32 × FVec F S16 .f32
  | 0, a => a
  | c + 1, a => stepAcc x t w k r c (rowAcc x t w k r c a)

/-- After the first `r` rows of chunk `k`. -/
def chunkAcc (x t : S32x512x512.Idx → Elt F .f32) (w k : ℕ) : ℕ → FVec F S16 .f32 × FVec F S16 .f32 → FVec F S16 .f32 × FVec F S16 .f32
  | 0, a => a
  | r + 1, a => rowAcc x t w k r 16 (chunkAcc x t w k r a)

/-- After the first `k` chunks. -/
def tileAcc (x t : S32x512x512.Idx → Elt F .f32) (w : ℕ) : ℕ → FVec F S16 .f32 × FVec F S16 .f32
  | 0 => (k1_pay6, k1_pay6)
  | k + 1 => chunkAcc x t w k 32 (tileAcc x t w k)

/-- Tile `w`'s result: sixteen lanes. -/
def tileVec (x t : S32x512x512.Idx → Elt F .f32) (w : ℕ) : FVec F S16 .f32 :=
  k1_pay1 (k1_pay8 (tileAcc x t w 5).1 (tileAcc x t w 5).2)

/-- What the SparseCore part leaves: row `w` is tile `w`'s result. -/
def scRes (x t : S32x512x512.Idx → Elt F .f32) : S32x16.Idx → Elt F .f32 := fun j => tileVec x t (j 0).val (fun | 0 => j 1)

end Values

/-! ## What the handshakes carry -/

variable (m : (ℓ : Loc nD τ sig) → Buf (Elt F) ℓ)

/-- Tile `w`'s row of the result. -/
abbrev rowR (w : Fin 32) : Rect S32x16 := Rect.block (s := S32x16) S1x16.size ![w.val, 0] (by
  have := w.isLt; intro a; fin_cases a
  · show (w.val + 1) * 1 ≤ 32; omega
  · show (0 + 1) * 16 ≤ 16; omega)
abbrev rowSet (w : Fin 32) : Finset S32x16.Idx := (rowR w).set

/-- Tile `(c, i)` is number `2 i + c`. -/
def widOf (c : Fin 2) (i : Fin 16) : Fin 32 := ⟨2 * i.val + c.val, by have := c.isLt; have := i.isLt; omega⟩

/-- A tile's share of each input. -/
abbrev qTile (w : Fin 32) : PosShare TreeShare := Transfers.shareTok fullShare 32 w

abbrev goPts (d : Dev nD) (w : Fin 32) : sProp 𝕄 :=
  iprop((xLoc d ↦{qTile w} m (xLoc d)) ∗ (tLoc d ↦{qTile w} m (tLoc d)) ∗ ∃ f, oLoc d ↦[rowSet w]{fullShare} f)
abbrev tdPts [FloatOps F] (d : Dev nD) (w : Fin 32) : sProp 𝕄 :=
  iprop(oLoc d ↦[rowSet w]{fullShare} scRes (m (xLoc d)) (m (tLoc d)))

variable [FloatOps F]

def P : (K (F := F)).Pay (nD := nD) (Val := Elt F) (Name := ℕ) (U := UU) where
  st := fun q d c => match q with
    | 0 => bigSep Finset.univ fun i : Fin 16 => goPts m d (widOf (Fin.cast nCore_zero c) i)
  dn := fun q d c => match q with
    | 0 => bigSep Finset.univ fun i : Fin 16 => tdPts m d (widOf (Fin.cast nCore_zero c) i)
  go := fun q d c i => match q with
    | 0 => goPts m d (widOf (Fin.cast nCore_zero c) (Fin.cast nSub_zero i))
  td := fun q d c i => match q with
    | 0 => tdPts m d (widOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goPts m d (widOf (Fin.cast nCore_zero c) i)))
  dn q d c := match q with
    | 0 => (inferInstance : BI.Storable (upEmb : UEmb _ 𝕄) (bigSep Finset.univ fun i : Fin 16 => tdPts m d (widOf (Fin.cast nCore_zero c) i)))
  go q d c i := match q with
    | 0 => (inferInstance : BI.Storable (upEmb : UEmb _ 𝕄) (goPts m d (widOf (Fin.cast nCore_zero c) (Fin.cast nSub_zero i))))
  td q d c i := match q with
    | 0 => (inferInstance : BI.Storable (upEmb : UEmb _ 𝕄) (tdPts m d (widOf (Fin.cast nCore_zero c) (Fin.cast nSub_zero i))))

end Cert.Proof.KI

end
-- ==== Proof.TCBody.lean ====
/-
  The TensorCore kernel's body at one grid point: the scratch row becomes the accumulator after one more block of two images.
-/
module

public import proofs.«01_k».proof.Proof.Setup
public import Idealize.ShloMosaic.Lib.Pipeline.Value

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD)

/-- A rectangle at zero offsets of the whole extent moves no index. -/
theorem emb_whole {S : Shape} {off : Fin S.rank → ℕ} (h : off = fun _ => 0) (inb : ∀ a, off a + S.size a ≤ S.size a) (j : S.Idx) :
    (Rect.unit (s := S) off S.size inb).emb j = j := by
  subst h
  funext a
  apply Fin.ext
  show 0 + 1 * (j a).val = (j a).val
  omega

theorem read_whole_rect {κ : Kind} {cs : CoreSpace} {S : Shape} {e : EltTy} (M : Memref sig κ cs S e) {off : Fin S.rank → ℕ} (h : off = fun _ => 0)
    (inb : ∀ a, off a + S.size a ≤ S.size a) (f : M.view.ty.Contents (Elt F)) :
    (M.access (Rect.unit (s := S) off S.size inb)).read (Elt F) f = M.view.read (Elt F) f := by
  funext j
  rw [View.read_apply, View.read_apply]
  have e : (M.access (Rect.unit (s := S) off S.size inb)).emb j = M.view.emb j :=
    congrArg M.view.emb (emb_whole h inb j)
  exact congrArg (fun z => cast _ (f z)) e

theorem set_whole_rect {κ : Kind} {cs : CoreSpace} {S : Shape} {e : EltTy} (M : Memref sig κ cs S e) {off : Fin S.rank → ℕ}
    (inb : ∀ a, off a + S.size a ≤ S.size a) :
    (M.access (Rect.unit (s := S) off S.size inb)).set ⊆ M.view.set :=
  View.set_slice_subset _ _

/-- Loading a whole buffer. -/
theorem wp_loadO {cs : CoreSpace} {S : Shape} {e : EltTy} (M : Memref sig .tc cs S e) {off : Fin S.rank → ℕ} (h : off = fun _ => 0)
    (inb : ∀ a, off a + S.size a ≤ S.size a) (hl : M.view.LoadsAt (Rect.unit (s := S) off S.size inb).toLoadRect) {α : Type}
    (k : (S.Idx → Elt F e) → Prog (TpuEff nD τ sig (Elt F) Λ₀ .tc) α) {Q : α → sProp 𝕄} (X : S.Idx → Elt F e) (E : Set ℕ) :
    (owns (T d) M fullShare X : sProp 𝕄)
      ⊢ iprop((owns (T d) M fullShare X -∗ wp frame (wpE (defs₀ (F := F)) 𝒱₀ (T d) none) E (k X) Q)
        -∗ wp frame (wpE (defs₀ (F := F)) 𝒱₀ (T d) none) E (.op (.load M (Rect.unit (s := S) off S.size inb).toLoadRect hl) k) Q) := by
  unfold owns
  iintro ⟨%f, %hf, H⟩ Hk
  have hw := wp_load_rect (defs := defs₀ (F := F)) (Ix := HIx 1) (Name := ℕ) (U := UU) (Lvl := ℕ) 𝒱₀ (T d) none (Γ := .empty) E (Q := Q) (m := M) (r := Rect.unit (s := S) off S.size inb) (hl := hl)
    (k := k) (q := fullShare) (f := f) (S := M.view.set) (set_whole_rect M inb)
  rw [read_whole_rect M h inb f, hf] at hw
  iapply hw $$ H
  iintro H
  iapply Hk
  iexists f; isplitr; · ipureintro; exact hf
  iexact H

/-- Storing a whole buffer. -/
theorem wp_storeO {cs : CoreSpace} {S : Shape} {e : EltTy} (M : Memref sig .tc cs S e) {off : Fin S.rank → ℕ} (h : off = fun _ => 0)
    (inb : ∀ a, off a + S.size a ≤ S.size a) (w : S.Idx → Elt F e) (hx : (M.access (Rect.unit (s := S) off S.size inb)).Stores Finset.univ)
    (hm : Finset.univ = Finset.univ ∨ ∀ a, (Rect.unit (s := S) off S.size inb).stride a = 1) {α : Type}
    (k : PUnit → Prog (TpuEff nD τ sig (Elt F) Λ₀ .tc) α) {Q : α → sProp 𝕄} (X : S.Idx → Elt F e) (E : Set ℕ) :
    (owns (T d) M fullShare X : sProp 𝕄)
      ⊢ iprop((owns (T d) M fullShare w -∗ wp frame (wpE (defs₀ (F := F)) 𝒱₀ (T d) none) E (k ⟨⟩) Q)
        -∗ wp frame (wpE (defs₀ (F := F)) 𝒱₀ (T d) none) E (.op (.store M (Rect.unit (s := S) off S.size inb) w Finset.univ hx hm) k) Q) := by
  unfold owns
  iintro ⟨%f, %hf, H⟩ Hk
  have hw := wp_store (defs := defs₀ (F := F)) (Ix := HIx 1) (Name := ℕ) (U := UU) (Lvl := ℕ) 𝒱₀ (T d) none (Γ := .empty) E (Q := Q) (m := M) (r := Rect.unit (s := S) off S.size inb) (w := w) (Mk := Finset.univ) (hx := hx) (hm := hm)
    (k := k) (f := f) (S := M.view.set) (by rw [View.setOn_univ]; exact set_whole_rect M inb)
  iapply hw $$ H
  iintro H
  iapply Hk
  iexists _; isplitr; swap; · iexact H
  ipureintro
  rw [← read_whole_rect M h inb]
  exact View.read_write_univ _ _

/-! ## The body -/

abbrev accM : Memref sig .tc .vmem S1x512 .f32 := Memref.whole cc0_scratch0

theorem z2 : (![0, 0] : Fin 2 → ℕ) = fun _ => 0 := funext fun a => by fin_cases a <;> rfl
theorem z3 : (![0, 0, 0] : Fin 3 → ℕ) = fun _ => 0 := funext fun a => by fin_cases a <;> rfl

theorem cond1_iff_tc : ∀ n : Fin 11, (Scalar.cmpi .ne (Scalar.extui (Scalar.cmpi .eq (BitVec.ofNat 32 n.val) 0#32) : BitVec 32) 0#32 = 1#1) ↔ n.val = 0 := by
  decide +kernel
theorem cond2_iff_tc (i : grid0.Coords) : k0_cond2 i = 1#1 ↔ (i 0).val = 10 := by
  have h : ∀ n : Fin 11, (Scalar.cmpi .ne (Scalar.extui (Scalar.cmpi .eq (BitVec.ofNat 32 n.val) 10#32) : BitVec 32) 0#32 = 1#1) ↔ n.val = 10 := by
    decide +kernel
  exact h (i 0)

/-- The accumulator after a point that found `A` and read the blocks `X`, `Y`. -/
def accStep (n : ℕ) (X Y : S2x512x512.Idx → Elt F .f32) (A : S1x512.Idx → Elt F .f32) : S1x512.Idx → Elt F .f32 :=
  k0_pay2 X Y (if n = 0 then k0_pay1 else A)

/-- What the result's cell holds after it. -/
def resStep (n : ℕ) (A : S1x512.Idx → Elt F .f32) (R : S1x1.Idx → Elt F .f32) : S1x1.Idx → Elt F .f32 :=
  if n = 10 then fun _ => k0_pay3 A else R

theorem tc_body_run (i : grid0.Coords) (a1 : Memref sig .tc .vmem S2x512x512 .f32) (h1 : a1.IsWhole) (a2 : Memref sig .tc .vmem S2x512x512 .f32) (h2 : a2.IsWhole)
    (a3 : Memref sig .tc .smem S1x1 .f32) (h3 : a3.IsWhole) (X Y : S2x512x512.Idx → Elt F .f32) (R : S1x1.Idx → Elt F .f32) (A : S1x512.Idx → Elt F .f32) (E : Set ℕ) :
    iprop(owns (T d) a1 fullShare X ∗ owns (T d) a2 fullShare Y ∗ owns (T d) a3 fullShare R ∗ (owns (T d) accM fullShare A : sProp 𝕄))
      ⊢ wp frame (wpE (defs₀ (F := F)) 𝒱₀ (T d) none) E (cc0__tc_body i a1 h1 a2 h2 a3 h3 accM (Memref.isWhole_whole _))
          fun _ => iprop(owns (T d) a1 fullShare X ∗ owns (T d) a2 fullShare Y ∗ owns (T d) a3 fullShare (resStep (i 0).val (accStep (i 0).val X Y A) R)
            ∗ owns (T d) accM fullShare (accStep (i 0).val X Y A)) := by
  rw [cc0__tc_body_eq_skeleton]
  unfold cc0__tc_body_skel
  iintro ⟨HX, HY, HR, HA⟩
  dsimp only
  have e1 := cond1_iff_tc (i 0)
  have e2 := cond2_iff_tc i
  have tail : ∀ (A : S1x512.Idx → Elt F .f32), iprop(owns (T d) a1 fullShare X ∗ owns (T d) a2 fullShare Y ∗ owns (T d) a3 fullShare R ∗ (owns (T d) accM fullShare A : sProp 𝕄))
      ⊢ wp frame (wpE (defs₀ (F := F)) 𝒱₀ (T d) none) E (do
          let v3 : Vec F S2x512x512 .f32 ← Prog.lift (.load a1 (Rect.unit (s := S2x512x512) ![0, 0, 0] S2x512x512.size inb_S2x512x512_S2x512x512_0_0_0).toLoadRect (View.loadsAt_vmem h_S2x512x512))
          let v4 : Vec F S2x512x512 .f32 ← Prog.lift (.load a2 (Rect.unit (s := S2x512x512) ![0, 0, 0] S2x512x512.size inb_S2x512x512_S2x512x512_0_0_0).toLoadRect (View.loadsAt_vmem h_S2x512x512))
          let v19 : Vec F S1x512 .f32 ← Prog.lift (.load accM (Rect.unit (s := S1x512) ![0, 0] S1x512.size inb_S1x512_S1x512_0_0).toLoadRect (View.loadsAt_vmem h_S1x512))
          let v24 : Vec F S1x512 .f32 ← Prog.lift (.load accM (Rect.unit (s := S1x512) ![0, 0] S1x512.size inb_S1x512_S1x512_0_0).toLoadRect (View.loadsAt_vmem h_S1x512))
          Prog.lift (.store accM (Rect.unit (s := S1x512) ![0, 0] S1x512.size inb_S1x512_S1x512_0_0) (k0_pay2 v3 v4 v19) Finset.univ (View.stores_vmem_bits_univ h_S1x512 rfl) (.inl rfl))
          if k0_h2 : k0_cond2 i = 1#1 then do
            let v30 : Vec F S1x512 .f32 ← Prog.lift (.load accM (Rect.unit (s := S1x512) ![0, 0] S1x512.size inb_S1x512_S1x512_0_0).toLoadRect (View.loadsAt_vmem h_S1x512))
            let v35 : Elt F .f32 ← smemLoad a3 (Rect.unit (s := S1x1) ![0, 0] S1x1.size inb_S1x1_S1x1_0_0) numel1_S1x1 rfl
            Prog.lift (.store a3 (Rect.unit (s := S1x1) ![0, 0] S1x1.size inb_S1x1_S1x1_0_0) (fun _ => k0_pay3 v30) Finset.univ (View.stores_smem_one rfl numel1_S1x1) (.inl rfl))
            Pure.pure PUnit.unit
          else Pure.pure PUnit.unit)
          fun _ => iprop(owns (T d) a1 fullShare X ∗ owns (T d) a2 fullShare Y ∗ owns (T d) a3 fullShare (resStep (i 0).val (k0_pay2 X Y A) R)
            ∗ owns (T d) accM fullShare (k0_pay2 X Y A)) := by
    intro A
    simp only [Prog.bind_lift, Prog.bind_op, Prog.bind_ret, Prog.pure_eq_ret, bind_assoc]
    iintro ⟨HX, HY, HR, HA⟩
    iapply (wp_loadO d a1 z3 _ _ _ X E) $$ HX
    iintro HX
    iapply (wp_loadO d a2 z3 _ _ _ Y E) $$ HY
    iintro HY
    iapply (wp_loadO d accM z2 _ _ _ A E) $$ HA
    iintro HA
    iapply (wp_loadO d accM z2 _ _ _ A E) $$ HA
    iintro HA
    iapply (wp_storeO d accM z2 _ _ _ _ _ A E) $$ HA
    iintro HA
    by_cases hc : (i 0).val = 10
    · rw [dif_pos (e2.mpr hc)]
      unfold smemLoad
      simp only [Prog.bind_lift, Prog.bind_op, Prog.bind_ret, Prog.pure_eq_ret, bind_assoc]
      iapply (wp_loadO d accM z2 _ _ _ _ E) $$ HA
      iintro HA
      iapply (wp_loadO d a3 z2 _ _ _ R E) $$ HR
      iintro HR
      iapply (wp_storeO d a3 z2 _ _ _ _ _ R E) $$ HR
      iintro HR
      rw [wp_ret]; imodintro
      isplitl [HX]; · iexact HX
      isplitl [HY]; · iexact HY
      isplitl [HR]
      · unfold resStep; rw [if_pos hc]; iexact HR
      iexact HA
    · rw [dif_neg (fun h => hc (e2.mp h))]
      simp only [Prog.bind_ret]
      rw [wp_ret]; imodintro
      isplitl [HX]; · iexact HX
      isplitl [HY]; · iexact HY
      isplitl [HR]
      · unfold resStep; rw [if_neg hc]; iexact HR
      iexact HA
  by_cases hc : (i 0).val = 0
  · rw [dif_pos (e1.mpr hc)]
    unfold accStep
    rw [if_pos hc]
    simp only [Prog.bind_lift, Prog.bind_op, Prog.bind_ret, Prog.pure_eq_ret, bind_assoc]
    iapply (wp_loadO d accM z2 _ _ _ A E) $$ HA
    iintro HA
    iapply (wp_storeO d accM z2 _ _ _ _ _ A E) $$ HA
    iintro HA
    have h := tail k0_pay1
    simp only [Prog.bind_lift, Prog.bind_op, Prog.bind_ret, Prog.pure_eq_ret, bind_assoc] at h
    iapply h
    isplitl [HX]; · iexact HX
    isplitl [HY]; · iexact HY
    isplitl [HR]; · iexact HR
    iexact HA
  · rw [dif_neg (fun h => hc (e1.mp h))]
    unfold accStep
    rw [if_neg hc]
    have h := tail A
    simp only [Prog.bind_lift, Prog.bind_op, Prog.bind_ret, Prog.pure_eq_ret, bind_assoc] at h
    simp only [Prog.bind_lift, Prog.bind_op, Prog.bind_ret, Prog.pure_eq_ret, bind_assoc]
    iapply h
    isplitl [HX]; · iexact HX
    isplitl [HY]; · iexact HY
    isplitl [HR]; · iexact HR
    iexact HA

end Cert.Proof.KI

end
-- ==== Proof.Region.lean ====
/-
  The TensorCore kernel as one region: over the eleven blocks of two images the scratch row accumulates, and the last point leaves its sum in the
  result's cell.
-/
module

public import proofs.«01_k».proof.Proof.TCBody
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## What the kernel computes -/

/-- Images `2 n` and `2 n + 1`. -/
def blk2 (x : S32x512x512.Idx → Elt F .f32) (n : ℕ) : S2x512x512.Idx → Elt F .f32 := fun j =>
  at3 x (2 * n + (j 0).val) (j 1).val (j 2).val

/-- The accumulator after the first `n` blocks. -/
def accTC (x t : S32x512x512.Idx → Elt F .f32) : ℕ → S1x512.Idx → Elt F .f32
  | 0 => k0_pay1
  | n + 1 => k0_pay2 (blk2 x n) (blk2 t n) (accTC x t n)

/-- What it leaves in the result's cell. -/
def tcVal (x t : S32x512x512.Idx → Elt F .f32) : S1x1.Idx → Elt F .f32 := fun _ => k0_pay3 (accTC x t 11)

theorem accStep_accTC (x t : S32x512x512.Idx → Elt F .f32) (n : ℕ) (A : S1x512.Idx → Elt F .f32) (hA : n ≠ 0 → A = accTC x t n) :
    accStep n (blk2 x n) (blk2 t n) A = accTC x t (n + 1) := by
  unfold accStep
  rcases n with _ | n
  · rfl
  · rw [if_neg (Nat.succ_ne_zero n), hA (Nat.succ_ne_zero n)]; rfl

/-! ## The windows' blocks -/

theorem coords0 (t : Fin cfg0.N) : ((grid0.coords t) 0).val = t.val := by
  have h : ∀ t : Fin grid0.N, ((grid0.coords t) 0).val = t.val := by decide +kernel
  exact h t
theorem index0_0 (t : Fin cfg0.N) : win0_0.index t 0 = t.val ∧ win0_0.index t 1 = 0 ∧ win0_0.index t 2 = 0 := by
  have h : ∀ t : Fin grid0.N, win0_0.index t 0 = t.val ∧ win0_0.index t 1 = 0 ∧ win0_0.index t 2 = 0 := by decide +kernel
  exact h t
theorem index0_1 (t : Fin cfg0.N) : win0_1.index t 0 = t.val ∧ win0_1.index t 1 = 0 ∧ win0_1.index t 2 = 0 := by
  have h : ∀ t : Fin grid0.N, win0_1.index t 0 = t.val ∧ win0_1.index t 1 = 0 ∧ win0_1.index t 2 = 0 := by decide +kernel
  exact h t

theorem at3_eq (x : S32x512x512.Idx → Elt F .f32) (a b c : ℕ) (i : S32x512x512.Idx) (h0 : (i 0).val = a) (h1 : (i 1).val = b) (h2 : (i 2).val = c) :
    at3 x a b c = x i := by
  subst h0 h1 h2
  unfold at3
  congr 1
  funext k
  apply Fin.ext
  match k with
  | ⟨0, _⟩ => exact Nat.mod_eq_of_lt (i 0).isLt
  | ⟨1, _⟩ => exact Nat.mod_eq_of_lt (i 1).isLt
  | ⟨2, _⟩ => exact Nat.mod_eq_of_lt (i 2).isLt

theorem read_blk0 (t : Fin cfg0.N) (x : S32x512x512.Idx → Elt F .f32) :
    (((cfg0.win 0).blk t).view.read (Elt F) x : S2x512x512.Idx → Elt F .f32) = blk2 x t.val := by
  have hi := index0_0 t
  funext j
  rw [View.read_apply]
  unfold blk2
  refine (at3_eq x _ _ _ (((cfg0.win 0).blk t).view.emb j) ?_ ?_ ?_).symm
  · show win0_0.index t 0 * 2 + 1 * (j 0).val = 2 * t.val + (j 0).val
    rw [hi.1]; omega
  · show win0_0.index t 1 * 512 + 1 * (j 1).val = (j 1).val
    rw [hi.2.1]; omega
  · show win0_0.index t 2 * 512 + 1 * (j 2).val = (j 2).val
    rw [hi.2.2]; omega

theorem read_blk1 (t : Fin cfg0.N) (x : S32x512x512.Idx → Elt F .f32) :
    (((cfg0.win 1).blk t).view.read (Elt F) x : S2x512x512.Idx → Elt F .f32) = blk2 x t.val := by
  have hi := index0_1 t
  funext j
  rw [View.read_apply]
  unfold blk2
  refine (at3_eq x _ _ _ (((cfg0.win 1).blk t).view.emb j) ?_ ?_ ?_).symm
  · show win0_1.index t 0 * 2 + 1 * (j 0).val = 2 * t.val + (j 0).val
    rw [hi.1]; omega
  · show win0_1.index t 1 * 512 + 1 * (j 1).val = (j 1).val
    rw [hi.2.1]; omega
  · show win0_1.index t 2 * 512 + 1 * (j 2).val = (j 2).val
    rw [hi.2.2]; omega

/-! ## The proof data -/

variable (m : (ℓ : Loc nD τ sig) → Buf (Elt F) ℓ)

/-- The scratch row between points: anything before the first, then the accumulator. -/
def ΦTC (d : Dev nD) (n : ℕ) : sProp 𝕄 :=
  iprop(∃ A, ⌜n ≠ 0 → A = accTC (m (xLoc d)) (m (tLoc d)) n⌝ ∗ owns (T d) accM fullShare A)

def dat (d : Dev nD) : Dat τ (Elt F) (HIx 1) ℕ UU ℕ cfg0 d where
  A w := m ((SparseCore.T d : Thread nD τ).loc (Pipeline.arrRef spec0 w))
  after w t := match w with
    | ⟨0, _⟩ => blk2 (m (xLoc d)) t.val
    | ⟨1, _⟩ => blk2 (m (tLoc d)) t.val
    | ⟨2, _⟩ => tcVal (m (xLoc d)) (m (tLoc d))
  Φ n := ΦTC m d n.val
  q _ := fullShare
  owed _ := (K (F := F)).Otc d 0
  recorded _ := {p | (K (F := F)).lev (SparseCore.T d, p.1) p.2 ≤ 0}

abbrev adm0 : (p : Fin 1) → (pcfgs (F := F) p).Adm := fun p => (cfgs p).toPCfg_adm

def pdats : (p : Fin 1) → (d : Dev nD) → Dat τ (Elt F) (HIx 1) ℕ UU ℕ (Pipeline.pin (pcfgs (F := F)) adm0 p) d
  | ⟨0, _⟩ => fun d => dat m d

theorem before0 (d : Dev nD) (t : Fin cfg0.N) (g : (cfg0.win 0).block.Idx → Elt F (cfg0.win 0).elt) : (dat m d).before 0 t g = blk2 (m (xLoc d)) t.val := by
  unfold Dat.before
  rw [if_pos (fetch0_0 t), ← read_blk0]
  rfl
theorem before1 (d : Dev nD) (t : Fin cfg0.N) (g : (cfg0.win 1).block.Idx → Elt F (cfg0.win 1).elt) : (dat m d).before 1 t g = blk2 (m (tLoc d)) t.val := by
  unfold Dat.before
  rw [if_pos (fetch0_1 t), ← read_blk1]
  rfl

theorem idle2 (t : Fin cfg0.N) : idle0 2 (grid0.coords t) = !decide (t.val = 10) := by
  show (!(k0_cond2 (grid0.coords t) == 1#1)) = _
  congr 1
  rw [Bool.eq_iff_iff, beq_iff_eq, decide_eq_true_iff, cond2_iff_tc, coords0]

theorem body_obligation (d : Dev nD) : BodyObligation (dat m d) (defs₀ (F := F)) 𝒱₀ none Set.univ := fun t => by
  have htN : t.val < 11 := lt_of_lt_of_eq t.isLt N_0
  rw [bigSep_W0, bigSep_W0]
  dsimp only
  rw [show (dat m d).owesAt none t.succ = (dat m d).owesAt none t.castSucc from rfl,
    show (dat m d).Φ t.castSucc = ΦTC m d t.val from rfl, show (dat m d).Φ t.succ = ΦTC m d (t.val + 1) from rfl]
  unfold ΦTC
  show _ ⊢ wp frame (wpE (defs₀ (F := F)) 𝒱₀ (T d) none) Set.univ (bodyAt0 t) _
  iintro ⟨⟨%A, %hA, HA⟩, Howes, ⟨%d0, H0⟩, ⟨%d1, H1⟩, ⟨%d2, H2⟩⟩
  rw [before0, before1]
  have hrun := tc_body_run d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (blk2 (m (xLoc d)) t.val) (blk2 (m (tLoc d)) t.val) ((dat m d).before 2 t d2) A Set.univ
  rw [coords0, accStep_accTC _ _ _ _ hA] at hrun
  iapply (wp_wand_r Idealize.ShloMosaic.frame (wpE (defs₀ (F := F)) 𝒱₀ (T d) none) Set.univ)
  isplitl [H0 H1 H2 HA]
  · iapply hrun
    isplitl [H0]; · iexact H0
    isplitl [H1]; · iexact H1
    isplitl [H2]; · iexact H2
    iexact HA
  iintro %_ ⟨H0, H1, H2, HA⟩
  isplitl [HA]
  · iexists _; isplitr; swap; · iexact HA
    ipureintro; intro _; rfl
  isplitl [Howes]; · iexact Howes
  isplitl [H0]; · iexact H0
  isplitl [H1]; · iexact H1
  rw [idle2]
  by_cases h10 : t.val = 10
  · rw [decide_eq_true h10, Bool.not_true]
    unfold resStep
    rw [if_pos h10, h10]
    iexact H2
  · rw [decide_eq_false h10, Bool.not_false]
    unfold resStep
    rw [if_neg h10]
    have hf : (win0 2).flush t = false := by
      rw [Bool.eq_false_iff]; intro h; have := (flush0_2 t).mp h; omega
    rw [hf]
    iexists d2; iexact H2

/-! ## The result's cell after the region -/

theorem flushed_eq (d : Dev nD) (t : Fin cfg0.N) (hf : (cfg0.win 2).flush t = true) :
    (dat m d).flushed 2 t = ((cfg0.win 2).blk t).view.read (Elt F) (tcVal (m (xLoc d)) (m (tLoc d))) := by
  funext j
  rw [View.read_apply]
  rfl

theorem final_v0 (d : Dev nD) : (dat m d).arrAt 2 cfg0.N = tcVal (m (xLoc d)) (m (tLoc d)) :=
  (dat m d).arrAt_eq_of_cover 2 (tcVal (m (xLoc d)) (m (tLoc d))) (flushed_eq m d) fun i =>
    ⟨t0_10, (flush0_2 t0_10).mpr rfl, by
      show i ∈ ((View.whole main_v0).slice (win0_2.rect t0_10)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_10 0 * win0_2.size 0 ≤ (i 0 : Nat) ∧ (i 0 : Nat) < win0_2.index t0_10 0 * win0_2.size 0 + win0_2.xsize (grid0.coords t0_10) 0
                  rw [show win0_2.index t0_10 0 * win0_2.size 0 = 0 from by decide +kernel, show win0_2.xsize (grid0.coords t0_10) 0 = 1 from by decide +kernel]; omega
      | ⟨1, _⟩ => show win0_2.index t0_10 1 * win0_2.size 1 ≤ (i 1 : Nat) ∧ (i 1 : Nat) < win0_2.index t0_10 1 * win0_2.size 1 + win0_2.xsize (grid0.coords t0_10) 1
                  rw [show win0_2.index t0_10 1 * win0_2.size 1 = 0 from by decide +kernel, show win0_2.xsize (grid0.coords t0_10) 1 = 1 from by decide +kernel]; omega⟩

/-! ## The region over the thread state -/

theorem Otc_none (d : Dev nD) (n : ℕ) (g : GSem nD τ sig) : (K (F := F)).Otc d n g none = 0 := by
  by_contra h
  have h1 := SparseCore.Cfg.lev_of_Otc_pos (K := K (F := F)) (Nat.pos_of_ne_zero h)
  have h2 : (K (F := F)).lev g none = 0 := rfl
  omega

/-- The unscoped buffers at the launch, and after the region. -/
abbrev V₀ (d : Dev nD) (b : Ref sig .tc) : Buf (Elt F) ((SparseCore.T d : Thread nD τ).loc b) := m ((SparseCore.T d : Thread nD τ).loc b)
def V₁ (d : Dev nD) : (b : Ref sig .tc) → Buf (Elt F) ((SparseCore.T d : Thread nD τ).loc b) :=
  Function.update (V₀ m d) main_v0 (tcVal (m (xLoc d)) (m (tLoc d)))

theorem V₁_out (d : Dev nD) : V₁ m d main_v0 = tcVal (m (xLoc d)) (m (tLoc d)) := Function.update_self ..
theorem V₁_ne (d : Dev nD) (b : Ref sig .tc) (h : b ≠ main_v0) : V₁ m d b = V₀ m d b := Function.update_of_ne h ..

/-- What the TensorCore owes around the region: all the launch's units, its waits within the region's own. -/
def owesTC (d : Dev nD) : sProp 𝕄 :=
  iprop(∃ W, ⌜(K (F := F)).WBelow (SparseCore.T d) W 0⌝ ∗ owes (SparseCore.T d : Thread nD τ) ((K (F := F)).Otc d 0) W)

set_option backward.isDefEq.respectTransparency.types false in
def reg : Pipeline.RegionSeg (pcfgs (F := F)) adm0 (pdats m) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro (Pipeline.pin (pcfgs (F := F)) adm0) (pdats m) none 0 c fun w s t =>
    (K (F := F)).mayWait_none _ (Otc_none c 0)
  pre c := iprop(unscopedBufs c (V₀ m c) ∗ owesTC c)
  post c := iprop(unscopedBufs c (V₁ m c) ∗ owesTC c)
  X _ := BI.emp
  Y _ := BI.emp
  Z c := Pipeline.unscopedRest (Ix := HIx 1) (Name := ℕ) (U := UU) (Lvl := ℕ) spec0 c (V₀ m c)
  hentry c := by
    rw [Pipeline.ownSems0_none]
    have hsplit := Pipeline.arrays_of_unscopedBufs (p := 0) (pcfgs (F := F)) adm0 (pdats m) launch0.win launch0.arr_whole c
      ((pdats m 0 c).share_full fun _ => rfl) (V₀ m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTC Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats m 0 c).Φ 0 = ΦTC m c 0 from rfl]
    rw [show Pipeline.scopedRest (Ix := HIx 1) (Name := ℕ) (U := UU) (Lvl := ℕ) (Val := Elt F) ((pcfgs (F := F) 0).spec) c = _ from scopedRest0_eq c]
    unfold ΦTC
    iintro ⟨-, -, ⟨%f, Hr⟩⟩
    iexists f
    isplitr; · ipureintro; intro h; exact absurd rfl h
    unfold accM
    rw [owns_whole]
    iexact Hr
  hout c := by
    rw [Pipeline.ownSems0_none, show (pdats m 0 c).Φ (Fin.last _) = ΦTC m c grid0.N from rfl]
    rw [show Pipeline.scopedRest (Ix := HIx 1) (Name := ℕ) (U := UU) (Lvl := ℕ) (Val := Elt F) ((pcfgs (F := F) 0).spec) c = _ from scopedRest0_eq c]
    unfold ΦTC accM
    simp only [owns_whole]
    iintro ⟨%A, -, Hr⟩
    isplitr; · iempintro
    isplitr; · iempintro
    iexists A; iexact Hr
  hexit c := by
    have hjoin := Pipeline.unscopedBufs_of_arrays (p := 0) (pcfgs (F := F)) adm0 (Ix := HIx 1) (Name := ℕ) (U := UU) (Lvl := ℕ) launch0.win launch0.arr_whole c
      (pdats m) ((pdats m 0 c).share_full fun _ => rfl) (V₀ m c) (V₁ m c) ((pdats m 0 c).arrAt · cfg0.N)
      (fun w => by
        fin_cases w
        · exact ((pdats m 0 c).arrAt_in 0 rfl _).trans (V₁_ne m c main_arg0 (by decide)).symm
        · exact ((pdats m 0 c).arrAt_in 1 rfl _).trans (V₁_ne m c main_arg1 (by decide)).symm
        · exact (final_v0 m c).trans (V₁_out m c).symm)
      (fun b hb => V₁_ne m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owesTC Pipeline.Dat.owesAt Pipeline.owesWithin
    icases HO with ⟨%W, %hW, HO⟩; iexists W; isplitr; swap; · iexact HO
    ipureintro
    intro p hp
    rcases hW hp with h | h
    · exact h
    · obtain ⟨w, s, rfl⟩ := h
      exact le_of_eq rfl

end Cert.Proof.KI

end
-- ==== Proof.Chunk.lean ====
/-
  One chunk in a tile's buffer: what a landed copy leaves in a half of the buffer, and what the loads of a step read of it.
-/
module

public import proofs.«01_k».proof.Proof.Setup
public import Idealize.ShloMosaic.Lib.ValueLayout

@[expose] public section

noncomputable section

namespace Cert.Proof.KI

open Cert.KernelIdeal Cert.KernelIdeal.Gen
open Idealize.ShloMosaic

variable {F : FTy → Type}

/-- Chunk `k` of tile `w`, over the 64 rows of a buffer (both halves hold the same 32 rows). -/
def chunkAt (x : S32x512x512.Idx → Elt F .f32) (w k : ℕ) : S64x512.Idx → Elt F .f32 := fun j =>
  at3 x ((352 + 5 * w + k) / 16) ((352 + 5 * w + k) % 16 * 32 + (j 0).val % 32) (j 1).val

/-- The half of a buffer from row `o`. -/
abbrev halfM (b : Memref sig .scVector .vmem S64x512 .f32) (o : ℕ) (ho : ∀ a, (![o, 0] : Fin 2 → ℕ) a + S32x512.size a ≤ S64x512.size a) :
    Memref sig .scVector .vmem S32x512 .f32 :=
  b.slice (Rect.unit (s := S64x512) ![o, 0] S32x512.size ho) (fun _ => rfl)

/-- The 32 rows of an input from offset `off`. -/
abbrev srcM (a : Memref sig .scVector .hbm S32x512x512 .f32) (off : Fin 3 → ℕ) (hoff : ∀ i, off i + S1x32x512.size i ≤ S32x512x512.size i) :
    Memref sig .scVector .hbm S32x512 .f32 :=
  (a.slice (Rect.unit (s := S32x512x512) off S1x32x512.size hoff) (fun _ => rfl)).squeeze S32x512 squeezes_S1x32x512_S32x512

abbrev chunkOff (w k : ℕ) : Fin 3 → ℕ := ![(352 + 5 * w + k) / 16, (352 + 5 * w + k) % 16 * 32, 0]

theorem src_read (M : Memref sig .scVector .hbm S32x512x512 .f32) (x : M.view.ty.Contents (Elt F)) (w k : ℕ) (hw : w < 32) (hk : k < 5) (hoff) (j : S32x512.Idx) :
    (srcM M (chunkOff w k) hoff).view.read (Elt F) x j
      = at3 (M.view.read (Elt F) x) ((352 + 5 * w + k) / 16) ((352 + 5 * w + k) % 16 * 32 + (j 0).val) (j 1).val := by
  have h0 : (j 0).val < 32 := (j 0).isLt
  have h1 : (j 1).val < 512 := (j 1).isLt
  have hj : j = ValueIdx.ix2 (j 0) (j 1) := ValueIdx.eq_ix2 j
  have e : Shape.reshapeEquiv squeezes_S1x32x512_S32x512.numel_eq j = ValueIdx.ix3 (⟨0, Nat.one_pos⟩ : Fin 1) (j 0) (j 1) := by
    conv_lhs => rw [hj]
    exact ValueIdx.reshapeEquiv_ix2_1ab _ _ _
  show M.view.read (Elt F) x ((Rect.unit (s := S32x512x512) (chunkOff w k) S1x32x512.size hoff).emb (Shape.reshapeEquiv squeezes_S1x32x512_S32x512.numel_eq j)) = _
  rw [e]
  unfold at3
  congr 1
  funext a
  apply Fin.ext
  fin_cases a
  · show (352 + 5 * w + k) / 16 + 1 * 0 = (352 + 5 * w + k) / 16 % 32; omega
  · show (352 + 5 * w + k) % 16 * 32 + 1 * (j 0).val = ((352 + 5 * w + k) % 16 * 32 + (j 0).val) % 512; omega
  · show 0 + 1 * (j 1).val = (j 1).val % 512; omega

/-- What a landed copy of chunk `k` leaves in a half of `bX`: the chunk. -/
theorem landed_bX (x : S32x512x512.Idx → Elt F .f32) (w k : ℕ) (hw : w < 32) (hk : k < 5) (hoff) (o : ℕ) (ho) (ho32 : o % 32 = 0)
    (fd : S64x512.Idx → Elt F .f32) :
    ∀ i ∈ (halfM bX o ho).view.set,
      (halfM bX o ho).view.write (Elt F) fd (ReadAs.same.apply ((srcM xV (chunkOff w k) hoff).view.read (Elt F) x)) Finset.univ i = chunkAt x w k i := by
  intro i hi
  obtain ⟨j, -, rfl⟩ := Finset.mem_map.mp hi
  rw [View.write_emb_of_mem _ _ (Finset.mem_univ _)]
  refine (src_read xV x w k hw hk hoff j).trans ?_
  have h0 : (j 0).val < 32 := (j 0).isLt
  show at3 x _ ((352 + 5 * w + k) % 16 * 32 + (j 0).val) (j 1).val = at3 x _ ((352 + 5 * w + k) % 16 * 32 + (o + 1 * (j 0).val) % 32) (0 + 1 * (j 1).val)
  congr 1
  · omega
  · omega

/-- A load of sixteen lanes of a chunk. -/
theorem load_bX (x : S32x512x512.Idx → Elt F .f32) (w k : ℕ) (o r c : ℕ) (ho32 : o % 32 = 0) (hr : r < 32) (off : Fin 2 → ℕ) (hoff : off = ![o + r, c]) (inb) :
    ((bX).access (Rect.unit (s := S64x512) off S1x16.size inb)).read (Elt F) (chunkAt x w k) = lanes x w k r c := by
  subst hoff
  funext j
  have h0 : (j 0).val < 1 := (j 0).isLt
  show at3 x _ ((352 + 5 * w + k) % 16 * 32 + (o + r + 1 * (j 0).val) % 32) (c + 1 * (j 1).val) = at3 x _ ((352 + 5 * w + k) % 16 * 32 + r) (c + (j 1).val)
  congr 1
  · omega
  · omega

theorem load_bX_sub (o r c : ℕ) (ho) (hr : r < 32) (hc : c + 16 ≤ 512) (off : Fin 2 → ℕ) (hoff : off = ![o + r, c]) (inb) :
    ((bX).access (Rect.unit (s := S64x512) off S1x16.size inb)).set ⊆ (halfM bX o ho).view.set := by
  subst hoff
  show ((View.whole (cc1_scratch0 : Ref sig .scVector)).slice (Rect.unit (s := S64x512) ![o + r, c] S1x16.size inb)).set ⊆ ((View.whole (cc1_scratch0 : Ref sig .scVector)).slice (Rect.unit (s := S64x512) ![o, 0] S32x512.size ho)).set
  rw [View.set_slice_whole, View.set_slice_whole]
  intro i hi
  rw [Rect.mem_set_unit] at hi ⊢
  have h0 : o + r ≤ (i 0).val ∧ (i 0).val < o + r + 1 := hi 0
  have h1 : c ≤ (i 1).val ∧ (i 1).val < c + 16 := hi 1
  intro a
  fin_cases a
  · show o ≤ (i 0).val ∧ (i 0).val < o + 32; omega
  · show 0 ≤ (i 1).val ∧ (i 1).val < 0 + 512; omega

/-- What a landed copy of chunk `k` leaves in a half of `bT`: the chunk. -/
theorem landed_bT (x : S32x512x512.Idx → Elt F .f32) (w k : ℕ) (hw : w < 32) (hk : k < 5) (hoff) (o : ℕ) (ho) (ho32 : o % 32 = 0)
    (fd : S64x512.Idx → Elt F .f32) :
    ∀ i ∈ (halfM bT o ho).view.set,
      (halfM bT o ho).view.write (Elt F) fd (ReadAs.same.apply ((srcM tV (chunkOff w k) hoff).view.read (Elt F) x)) Finset.univ i = chunkAt x w k i := by
  intro i hi
  obtain ⟨j, -, rfl⟩ := Finset.mem_map.mp hi
  rw [View.write_emb_of_mem _ _ (Finset.mem_univ _)]
  refine (src_read tV x w k hw hk hoff j).trans ?_
  have h0 : (j 0).val < 32 := (j 0).isLt
  show at3 x _ ((352 + 5 * w + k) % 16 * 32 + (j 0).val) (j 1).val = at3 x _ ((352 + 5 * w + k) % 16 * 32 + (o + 1 * (j 0).val) % 32) (0 + 1 * (j 1).val)
  congr 1
  · omega
  · omega

/-- A load of sixteen lanes of a chunk. -/
theorem load_bT (x : S32x512x512.Idx → Elt F .f32) (w k : ℕ) (o r c : ℕ) (ho32 : o % 32 = 0) (hr : r < 32) (off : Fin 2 → ℕ) (hoff : off = ![o + r, c]) (inb) :
    ((bT).access (Rect.unit (s := S64x512) off S1x16.size inb)).read (Elt F) (chunkAt x w k) = lanes x w k r c := by
  subst hoff
  funext j
  have h0 : (j 0).val < 1 := (j 0).isLt
  show at3 x _ ((352 + 5 * w + k) % 16 * 32 + (o + r + 1 * (j 0).val) % 32) (c + 1 * (j 1).val) = at3 x _ ((352 + 5 * w + k) % 16 * 32 + r) (c + (j 1).val)
  congr 1
  · omega
  · omega

theorem load_bT_sub (o r c : ℕ) (ho) (hr : r < 32) (hc : c + 16 ≤ 512) (off : Fin 2 → ℕ) (hoff : off = ![o + r, c]) (inb) :
    ((bT).access (Rect.unit (s := S64x512) off S1x16.size inb)).set ⊆ (halfM bT o ho).view.set := by
  subst hoff
  show ((View.whole (cc1_scratch1 : Ref sig .scVector)).slice (Rect.unit (s := S64x512) ![o + r, c] S1x16.size inb)).set ⊆ ((View.whole (cc1_scratch1 : Ref sig .scVector)).slice (Rect.unit (s := S64x512) ![o, 0] S32x512.size ho)).set
  rw [View.set_slice_whole, View.set_slice_whole]
  intro i hi
  rw [Rect.mem_set_unit] at hi ⊢
  have h0 : o + r ≤ (i 0).val ∧ (i 0).val < o + r + 1 := hi 0
  have h1 : c ≤ (i 1).val ∧ (i 1).val < c + 16 := hi 1
  intro a
  fin_cases a
  · show o ≤ (i 0).val ∧ (i 0).val < o + 32; omega
  · show 0 ≤ (i 1).val ∧ (i 1).val < 0 + 512; omega

/-! ## The copies' offsets, and the trips -/

/-- The tile's number, from its grid point. -/
abbrev wOf (i : grid1.Coords) : ℕ := 2 * (i 1).val + (i 0).val
theorem wOf_lt (i : grid1.Coords) : wOf i < 32 := by
  have h0 : (i 0).val < 2 := (i 0).isLt
  have h1 : (i 1).val < 16 := (i 1).isLt
  unfold wOf; omega

theorem k1_off1_eq : ∀ i : grid1.Coords, k1_off1 i = chunkOff (wOf i) 0 := by decide +kernel
theorem k1_off2_eq : ∀ (i : grid1.Coords) (t : Fin k1_t1_loop.trips), k1_off2 i t = chunkOff (wOf i) (min (t.val + 1) 4) := by decide +kernel
theorem k1_off3_eq : ∀ (i : grid1.Coords) (t : Fin k1_t1_loop.trips), k1_off3 i t = chunkOff (wOf i) (min (t.val + 1) 4) := by decide +kernel

theorem trips1 : k1_t1_loop.trips = 5 := by decide +kernel
theorem trips2 : k1_t2_loop.trips = 32 := by decide +kernel
theorem trips3 : k1_t3_loop.trips = 16 := by decide +kernel

theorem cond1_iff : ∀ t : Fin k1_t1_loop.trips, k1_cond1 t = 1#1 ↔ t.val % 2 = 0 := by decide +kernel
theorem cond2_iff : ∀ t : Fin k1_t1_loop.trips, k1_cond2 t = 1#1 ↔ t.val % 2 = 1 := by decide +kernel

end Cert.Proof.KI

end
-- ==== Proof.Inner.lean ====
/-
  The two inner loops of a tile: over the 32 rows of a chunk and the 16 column steps of a row, the accumulators become `chunkAcc`.
-/
module

public import proofs.«01_k».proof.Proof.Chunk

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

variable (d : Dev nD) (L : grid1.Coords)

/-- The half of a scratch buffer from row `o`, held at contents `f`. -/
abbrev hX (o : ℕ) (ho : ∀ a, (![o, 0] : Fin 2 → ℕ) a + S32x512.size a ≤ S64x512.size a) (f : S64x512.Idx → Elt F .f32) : sProp 𝕄 :=
  ((halfM bX o ho).view.loc (VT d L) ↦[(halfM bX o ho).view.set]{fullShare} f)
abbrev hT (o : ℕ) (ho : ∀ a, (![o, 0] : Fin 2 → ℕ) a + S32x512.size a ≤ S64x512.size a) (f : S64x512.Idx → Elt F .f32) : sProp 𝕄 :=
  ((halfM bT o ho).view.loc (VT d L) ↦[(halfM bT o ho).view.set]{fullShare} f)

/-- A result handed on through a pair's rebuild. -/
theorem wp_bind_pair {α β : Type} {p : Prog (TpuEff nD τ sig (Elt F) Λ₀ (VT d L).2) (α × β)} {Q : α × β → sProp 𝕄} :
    wp frame (wpE (defs₀ (F := F)) 𝒱₀ (VT d L) none) Set.univ p Q
      ⊢ wp frame (wpE (defs₀ (F := F)) 𝒱₀ (VT d L) none) Set.univ (p >>= fun x => match x with | (a, b) => Pure.pure (a, b)) Q := by
  rw [show (fun x : α × β => (match x with | (a, b) => Pure.pure (a, b) : Prog (TpuEff nD τ sig (Elt F) Λ₀ (VT d L).2) (α × β))) = Pure.pure from funext fun ⟨_, _⟩ => rfl, bind_pure]

theorem bind_ret'' {E : Type → Type} {α β : Type} (a : α) (k : α → Prog E β) : (Prog.ret a).bind k = k a := rfl

theorem wp_loadX (x : S32x512x512.Idx → Elt F .f32) (k o r c : ℕ) (ho) (ho32 : o % 32 = 0) (hr : r < 32) (hc : c + 16 ≤ 512) (off : Fin 2 → ℕ) (hoff : off = ![o + r, c])
    (inb) (hl : (bX).view.LoadsAt (Rect.unit (s := S64x512) off S1x16.size inb).toLoadRect) {α : Type}
    {kk : Vec F S1x16 .f32 → Prog (TpuEff nD τ sig (Elt F) Λ₀ (VT d L).2) α} {Q : α → sProp 𝕄} :
    hX d L o ho (chunkAt x (wOf L) k)
      ⊢ iprop((hX d L o ho (chunkAt x (wOf L) k) -∗ wp frame (wpE (defs₀ (F := F)) 𝒱₀ (VT d L) none) Set.univ (kk (lanes x (wOf L) k r c)) Q)
        -∗ wp frame (wpE (defs₀ (F := F)) 𝒱₀ (VT d L) none) Set.univ (.op (.load bX (Rect.unit (s := S64x512) off S1x16.size inb).toLoadRect hl) kk) Q) := by
  have h : hX d L o ho (chunkAt x (wOf L) k)
      ⊢ iprop((hX d L o ho (chunkAt x (wOf L) k) -∗ wp frame (wpE (defs₀ (F := F)) 𝒱₀ (VT d L) none) Set.univ
            (kk (((bX).access (Rect.unit (s := S64x512) off S1x16.size inb)).read (Elt F) (chunkAt x (wOf L) k))) Q)
        -∗ wp frame (wpE (defs₀ (F := F)) 𝒱₀ (VT d L) none) Set.univ (.op (.load bX (Rect.unit (s := S64x512) off S1x16.size inb).toLoadRect hl) kk) Q) :=
    wp_load_rect 𝒱₀ (VT d L) none Set.univ (load_bX_sub o r c ho hr hc off hoff inb)
  rw [load_bX x (wOf L) k o r c ho32 hr off hoff] at h
  exact h

theorem wp_loadT (x : S32x512x512.Idx → Elt F .f32) (k o r c : ℕ) (ho) (ho32 : o % 32 = 0) (hr : r < 32) (hc : c + 16 ≤ 512) (off : Fin 2 → ℕ) (hoff : off = ![o + r, c])
    (inb) (hl : (bT).view.LoadsAt (Rect.unit (s := S64x512) off S1x16.size inb).toLoadRect) {α : Type}
    {kk : Vec F S1x16 .f32 → Prog (TpuEff nD τ sig (Elt F) Λ₀ (VT d L).2) α} {Q : α → sProp 𝕄} :
    hT d L o ho (chunkAt x (wOf L) k)
      ⊢ iprop((hT d L o ho (chunkAt x (wOf L) k) -∗ wp frame (wpE (defs₀ (F := F)) 𝒱₀ (VT d L) none) Set.univ (kk (lanes x (wOf L) k r c)) Q)
        -∗ wp frame (wpE (defs₀ (F := F)) 𝒱₀ (VT d L) none) Set.univ (.op (.load bT (Rect.unit (s := S64x512) off S1x16.size inb).toLoadRect hl) kk) Q) := by
  have h : hT d L o ho (chunkAt x (wOf L) k)
      ⊢ iprop((hT d L o ho (chunkAt x (wOf L) k) -∗ wp frame (wpE (defs₀ (F := F)) 𝒱₀ (VT d L) none) Set.univ
            (kk (((bT).access (Rect.unit (s := S64x512) off S1x16.size inb)).read (Elt F) (chunkAt x (wOf L) k))) Q)
        -∗ wp frame (wpE (defs₀ (F := F)) 𝒱₀ (VT d L) none) Set.univ (.op (.load bT (Rect.unit (s := S64x512) off S1x16.size inb).toLoadRect hl) kk) Q) :=
    wp_load_rect 𝒱₀ (VT d L) none Set.univ (load_bT_sub o r c ho hr hc off hoff inb)
  rw [load_bT x (wOf L) k o r c ho32 hr off hoff] at h
  exact h

variable (x t : S32x512x512.Idx → Elt F .f32) (k : ℕ)

/-- One column step. -/
theorem step_run (t1 : Fin k1_t1_loop.trips) (t2 : Fin k1_t2_loop.trips) (t3 : Fin k1_t3_loop.trips) (ho)
    (v3 : BitVec 32) (v4 : FVec F S16 .f32) (v73 arg13 : BitVec 32) (a : FVec F S16 .f32 × FVec F S16 .f32) :
    iprop(hX d L (32 * (t1.val % 2)) ho (chunkAt x (wOf L) k) ∗ hT d L (32 * (t1.val % 2)) ho (chunkAt t (wOf L) k))
      ⊢ wp frame (wpE (defs₀ (F := F)) 𝒱₀ (VT d L) none) Set.univ
          (k1_t3_body L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 v4 t1 v73 t2 arg13 t3 a)
          fun a' => iprop(⌜a' = stepAcc x t (wOf L) k t2.val t3.val a⌝
            ∗ hX d L (32 * (t1.val % 2)) ho (chunkAt x (wOf L) k) ∗ hT d L (32 * (t1.val % 2)) ho (chunkAt t (wOf L) k)) := by
  obtain ⟨a1, a2⟩ := a
  have h2 : t2.val < 32 := lt_of_lt_of_eq t2.isLt trips2
  have h3 : t3.val < 16 := lt_of_lt_of_eq t3.isLt trips3
  have hm : 32 * (t1.val % 2) % 32 = 0 := by omega
  unfold k1_t3_body
  simp only [k1_part3_eq_skeleton]
  unfold k1_part3_skel
  iintro ⟨HX, HT⟩
  iapply (wp_loadX d L x k (32 * (t1.val % 2)) t2.val (32 * t3.val) ho hm h2 (by omega) _ (k1_off4_eq t1 t2 t3) _ _) $$ [HX]
  · iexact HX
  iintro HX
  simp only [bind_ret'']
  iapply (wp_loadT d L t k (32 * (t1.val % 2)) t2.val (32 * t3.val) ho hm h2 (by omega) _ (k1_off4_eq t1 t2 t3) _ _) $$ [HT]
  · iexact HT
  iintro HT
  simp only [bind_ret'']
  iapply (wp_loadX d L x k (32 * (t1.val % 2)) t2.val (32 * t3.val + 16) ho hm h2 (by omega) _ (k1_off5_eq t1 t2 t3) _ _) $$ [HX]
  · iexact HX
  iintro HX
  simp only [bind_ret'']
  iapply (wp_loadT d L t k (32 * (t1.val % 2)) t2.val (32 * t3.val + 16) ho hm h2 (by omega) _ (k1_off5_eq t1 t2 t3) _ _) $$ [HT]
  · iexact HT
  iintro HT
  simp only [bind_ret'']
  iapply (show _ ⊢ wp frame (wpE (defs₀ (F := F)) 𝒱₀ (VT d L) none) Set.univ (.ret (stepAcc x t (wOf L) k t2.val t3.val (a1, a2))) _ from
    (by rw [wp_ret]))
  imodintro
  isplitr; · ipureintro; rfl
  isplitl [HX]; · iexact HX
  iexact HT

/-- One row. -/
theorem row_run (t1 : Fin k1_t1_loop.trips) (t2 : Fin k1_t2_loop.trips) (ho)
    (v3 : BitVec 32) (v4 : FVec F S16 .f32) (v73 : BitVec 32) (a : FVec F S16 .f32 × FVec F S16 .f32) :
    iprop(hX d L (32 * (t1.val % 2)) ho (chunkAt x (wOf L) k) ∗ hT d L (32 * (t1.val % 2)) ho (chunkAt t (wOf L) k))
      ⊢ wp frame (wpE (defs₀ (F := F)) 𝒱₀ (VT d L) none) Set.univ
          (k1_t2_body L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 v4 t1 v73 t2 a)
          fun a' => iprop(⌜a' = rowAcc x t (wOf L) k t2.val 16 a⌝
            ∗ hX d L (32 * (t1.val % 2)) ho (chunkAt x (wOf L) k) ∗ hT d L (32 * (t1.val % 2)) ho (chunkAt t (wOf L) k)) := by
  obtain ⟨a1, a2⟩ := a
  unfold k1_t2_body
  dsimp only
  iintro ⟨HX, HT⟩
  iapply (wp_bind_pair d L)
  unfold Scf.Loop.for
  iapply (Scf.wp_for frame (wpE (defs₀ (F := F)) 𝒱₀ (VT d L) none) Set.univ _ _ _ _ (a1, a2) _
    (fun n acc => iprop(⌜acc = rowAcc x t (wOf L) k t2.val n (a1, a2)⌝
      ∗ hX d L (32 * (t1.val % 2)) ho (chunkAt x (wOf L) k) ∗ hT d L (32 * (t1.val % 2)) ho (chunkAt t (wOf L) k)))
    (by
      intro n acc
      iintro ⟨%hacc, HX, HT⟩
      subst hacc
      iapply (step_run d L x t k t1 t2 n ho)
      isplitl [HX]; · iexact HX
      iexact HT))
  isplitl [HX HT]
  · isplitr; · ipureintro; rfl
    isplitl [HX]; · iexact HX
    iexact HT
  iintro %acc ⟨%hacc, HX, HT⟩
  isplitr
  · ipureintro
    rw [hacc]
    exact congrArg (fun n => rowAcc x t (wOf L) k t2.val n (a1, a2)) trips3
  isplitl [HX]; · iexact HX
  iexact HT

/-- One chunk. -/
theorem chunk_run (t1 : Fin k1_t1_loop.trips) (ho)
    (v3 : BitVec 32) (v4 : FVec F S16 .f32) (v73 : BitVec 32) (a : FVec F S16 .f32 × FVec F S16 .f32) :
    iprop(hX d L (32 * (t1.val % 2)) ho (chunkAt x (wOf L) k) ∗ hT d L (32 * (t1.val % 2)) ho (chunkAt t (wOf L) k))
      ⊢ wp frame (wpE (defs₀ (F := F)) 𝒱₀ (VT d L) none) Set.univ
          (Scf.Loop.for k1_t2_loop k1_t2_ok a (k1_t2_body L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 v4 t1 v73))
          fun a' => iprop(⌜a' = chunkAcc x t (wOf L) k 32 a⌝
            ∗ hX d L (32 * (t1.val % 2)) ho (chunkAt x (wOf L) k) ∗ hT d L (32 * (t1.val % 2)) ho (chunkAt t (wOf L) k)) := by
  unfold Scf.Loop.for
  iintro ⟨HX, HT⟩
  iapply (Scf.wp_for frame (wpE (defs₀ (F := F)) 𝒱₀ (VT d L) none) Set.univ _ _ _ _ a _
    (fun n acc => iprop(⌜acc = chunkAcc x t (wOf L) k n a⌝
      ∗ hX d L (32 * (t1.val % 2)) ho (chunkAt x (wOf L) k) ∗ hT d L (32 * (t1.val % 2)) ho (chunkAt t (wOf L) k)))
    (by
      intro n acc
      iintro ⟨%hacc, HX, HT⟩
      subst hacc
      iapply (row_run d L x t k t1 n ho)
      isplitl [HX]; · iexact HX
      iexact HT))
  isplitl [HX HT]
  · isplitr; · ipureintro; rfl
    isplitl [HX]; · iexact HX
    iexact HT
  iintro %acc ⟨%hacc, HX, HT⟩
  isplitr
  · ipureintro
    rw [hacc]
    exact congrArg (fun n => chunkAcc x t (wOf L) k n a) trips2
  isplitl [HX]; · iexact HX
  iexact HT

end Cert.Proof.KI

end
-- ==== Proof.Dma.lean ====
/-
  The tile's copies: the two copies of a chunk (its `output` rows and its `label` rows) fly as one batch on one semaphore, and the batch's
  deliveries are the two halves holding the chunk.
-/
module

public import proofs.«01_k».proof.Proof.Inner

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords) (x t : S32x512x512.Idx → Elt F .f32)

abbrev HalfInb (o : ℕ) : Prop := ∀ a, (![o, 0] : Fin 2 → ℕ) a + S32x512.size a ≤ S64x512.size a

/-- What the two copies of chunk `k` into the halves from row `o` deliver. -/
def deliv (o : ℕ) (ho : HalfInb o) (k : ℕ) : Fin 2 → sProp 𝕄
  | ⟨0, _⟩ => hX d L o ho (chunkAt x (wOf L) k)
  | ⟨1, _⟩ => hT d L o ho (chunkAt t (wOf L) k)

instance deliv_storable (o : ℕ) (ho : HalfInb o) (k : ℕ) : ∀ i, BI.Storable (upEmb : UEmb _ 𝕄) (deliv d L x t o ho k i)
  | ⟨0, _⟩ => by unfold deliv; infer_instance
  | ⟨1, _⟩ => by unfold deliv; infer_instance

/-- One copy's credit. -/
abbrev NC : ℕ := (halfM bX 0 inb_S64x512_S32x512_0_0).view.dmaCredit

theorem NC_pos : 0 < NC := by decide +kernel

/-- The batch of chunk `k` on semaphore `s`, `j` copies issued and `u` credits taken. -/
abbrev Bat (s : DmaSem sig) (o : ℕ) (ho : HalfInb o) (k j u : ℕ) : sProp 𝕄 :=
  Transfers.Batch (EC (F := F)) (VT d L) (.dma s) (none : HIx 1) NC (deliv d L x t o ho k) j u

abbrev srcX (q : PosShare TreeShare) : sProp 𝕄 := ((xV).view.loc (VT d L) ↦{q} x)
abbrev srcT (q : PosShare TreeShare) : sProp 𝕄 := ((tV).view.loc (VT d L) ↦{q} t)

theorem drop_r {A B C : sProp 𝕄} (h : A ⊢ C) : iprop(A ∗ B) ⊢ C := by
  iintro ⟨H, -⟩
  iapply h; iexact H

theorem wp_issueX (s : DmaSem sig) (o : ℕ) (ho : HalfInb o) (ho32 : o % 32 = 0) (k : ℕ) (hk : k < 5) (off : Fin 3 → ℕ) (hoff : off = chunkOff (wOf L) k) (inb)
    {he₁ he₂ he₃} {α : Type} {kk : PUnit → Prog (TpuEff nD τ sig (Elt F) Λ₀ (VT d L).2) α} {Q : α → sProp 𝕄} :
    iprop((∃ q, srcX d L x q) ∗ (∃ f, hX d L o ho f) ∗ Bat d L x t s o ho k 0 0)
      ⊢ iprop((((∃ q, srcX d L x q) ∗ Bat d L x t s o ho k 1 0) -∗ wp frame (wpE (defs₀ (F := F)) 𝒱₀ (VT d L) none) Set.univ (kk ⟨⟩) Q)
        -∗ wp frame (wpE (defs₀ (F := F)) 𝒱₀ (VT d L) none) Set.univ (.op (.enqueueDma (srcM xV off inb) (.here (halfM bX o ho)) (.dma s) he₁ he₂ he₃) kk) Q) := by
  subst hoff
  iintro ⟨⟨%q, HS⟩, ⟨%f, HD⟩, HB⟩ Hk
  ihave HS' := (show srcX d L x q ⊢ iprop(srcX d L x q.left ∗ srcX d L x q.right) from (pointsTo_share (PosShare.mem_left_op_right q)).1) $$ HS
  icases HS' with ⟨HS, HR⟩
  ihave HR' := (pointsTo_split_subset (Finset.subset_univ (srcM xV (chunkOff (wOf L) k) inb).view.set)).1 $$ HR
  icases HR' with ⟨HR, -⟩
  iapply (Transfers.wp_dmaBatch (EC (F := F)) 𝒱₀ (VT d L) none (src := srcM xV (chunkOff (wOf L) k) inb) (dst := halfM bX o ho) (none : HIx 1) NC rfl subset_rfl
    (D := deliv d L x t o ho k) (j := 0) (u := 0) (by decide) (Nat.zero_le _)
    (drop_r (Entails.of_eq (pointsTo_congr (landed_bX x (wOf L) k (wOf_lt L) hk inb o ho ho32 f))))) $$ [HR HD HB]
  · isplitl [HR]; · iexact HR
    isplitl [HD]; · iexact HD
    iexact HB
  iintro HB
  iapply Hk
  isplitl [HS]; · iexists _; iexact HS
  iexact HB

theorem wp_issueT (s : DmaSem sig) (o : ℕ) (ho : HalfInb o) (ho32 : o % 32 = 0) (k : ℕ) (hk : k < 5) (off : Fin 3 → ℕ) (hoff : off = chunkOff (wOf L) k) (inb)
    {he₁ he₂ he₃} {α : Type} {kk : PUnit → Prog (TpuEff nD τ sig (Elt F) Λ₀ (VT d L).2) α} {Q : α → sProp 𝕄} :
    iprop((∃ q, srcT d L t q) ∗ (∃ f, hT d L o ho f) ∗ Bat d L x t s o ho k 1 0)
      ⊢ iprop((((∃ q, srcT d L t q) ∗ Bat d L x t s o ho k 2 0) -∗ wp frame (wpE (defs₀ (F := F)) 𝒱₀ (VT d L) none) Set.univ (kk ⟨⟩) Q)
        -∗ wp frame (wpE (defs₀ (F := F)) 𝒱₀ (VT d L) none) Set.univ (.op (.enqueueDma (srcM tV off inb) (.here (halfM bT o ho)) (.dma s) he₁ he₂ he₃) kk) Q) := by
  subst hoff
  iintro ⟨⟨%q, HS⟩, ⟨%f, HD⟩, HB⟩ Hk
  ihave HS' := (show srcT d L t q ⊢ iprop(srcT d L t q.left ∗ srcT d L t q.right) from (pointsTo_share (PosShare.mem_left_op_right q)).1) $$ HS
  icases HS' with ⟨HS, HR⟩
  ihave HR' := (pointsTo_split_subset (Finset.subset_univ (srcM tV (chunkOff (wOf L) k) inb).view.set)).1 $$ HR
  icases HR' with ⟨HR, -⟩
  iapply (Transfers.wp_dmaBatch (EC (F := F)) 𝒱₀ (VT d L) none (src := srcM tV (chunkOff (wOf L) k) inb) (dst := halfM bT o ho) (none : HIx 1) NC rfl subset_rfl
    (D := deliv d L x t o ho k) (j := 1) (u := 0) (by decide) (Nat.zero_le _)
    (drop_r (Entails.of_eq (pointsTo_congr (landed_bT t (wOf L) k (wOf_lt L) hk inb o ho ho32 f))))) $$ [HR HD HB]
  · isplitl [HR]; · iexact HR
    isplitl [HD]; · iexact HD
    iexact HB
  iintro HB
  iapply Hk
  isplitl [HS]; · iexists _; iexact HS
  iexact HB

/-- Both waits of a chunk: the halves come back holding it. -/
theorem wp_waits (O : CellTallies nD τ sig (HIx 1)) (s : DmaSem sig) (o : ℕ) (ho : HalfInb o) (k : ℕ) (inb)
    {he₁ he₂ he₃ he₄} {α : Type} {kk : PUnit → Prog (TpuEff nD τ sig (Elt F) Λ₀ (VT d L).2) α} {Q : α → sProp 𝕄} :
    iprop(Transfers.MayWaits (VT d L) (none : HIx 1) O ∗ Bat d L x t s o ho k 2 0 ∗ ∃ W, owes (VT d L) O W)
      ⊢ iprop(((hX d L o ho (chunkAt x (wOf L) k) ∗ hT d L o ho (chunkAt t (wOf L) k) ∗ semVal (VT d L, SemLoc.dma s) 0 ∗ ∃ W, owes (VT d L) O W)
          -∗ wp frame (wpE (defs₀ (F := F)) 𝒱₀ (VT d L) none) Set.univ (kk ⟨⟩) Q)
        -∗ wp frame (wpE (defs₀ (F := F)) 𝒱₀ (VT d L) none) Set.univ
            (.op (.waitDma2 s (srcM xV ![0, 0, 0] inb) (halfM bX o ho) he₁ he₂) fun _ =>
              .op (.waitDma2 s (srcM tV ![0, 0, 0] inb) (halfM bT o ho) he₃ he₄) kk) Q) := by
  iintro ⟨#Hmw, HB, ⟨%W, HO⟩⟩ Hk
  iapply (Transfers.wp_waitBatchO (EC (F := F)) 𝒱₀ (VT d L) none (none : HIx 1) (hsrc := he₁) (hdst := he₂) (N := NC) rfl (D := deliv d L x t o ho k) (u := 0) (O := O) (W := W) (by have := NC_pos; omega)) $$ [HB HO]
  · isplitl [HB]; · iexact HB
    isplitl [HO]; · iexact HO
    iapply (Transfers.MayWaits.elim (SemLoc.dma s)); iexact Hmw
  iintro ⟨HB, HO⟩
  iapply (Transfers.wp_waitBatchLastO (EC (F := F)) 𝒱₀ (VT d L) none (none : HIx 1) (hsrc := he₃) (hdst := he₄) (N := NC) rfl NC_pos (D := deliv d L x t o ho k) (u := 0 + NC) (O := O) (by omega)) $$ [HB HO]
  · isplitl [HB]; · iexact HB
    isplitl [HO]; · iexact HO
    iapply (Transfers.MayWaits.elim (SemLoc.dma s)); iexact Hmw
  iintro ⟨HD, HS, HO⟩
  ihave HD' := (Entails.of_eq (Idealize.SL.BI.bigSep_univ_eq_bigSepL [0, 1] (by decide) (by decide) (deliv d L x t o ho k))) $$ HD
  ihave HD'' := (show bigSepL [(0 : Fin 2), 1] (deliv d L x t o ho k) ⊢ iprop(hX d L o ho (chunkAt x (wOf L) k) ∗ hT d L o ho (chunkAt t (wOf L) k)) from .rfl) $$ HD'
  icases HD'' with ⟨H0, H1⟩
  iapply Hk
  isplitl [H0]; · iexact H0
  isplitl [H1]; · iexact H1
  isplitl [HS]; · iexact HS
  iexists _; iexact HO

/-- A batch opened, both copies of chunk `k` issued. -/
theorem wp_issues (s : DmaSem sig) (o : ℕ) (ho : HalfInb o) (ho32 : o % 32 = 0) (k : ℕ) (hk : k < 5) (off : Fin 3 → ℕ) (hoff : off = chunkOff (wOf L) k) (inb inb')
    {he₁ he₂ he₃ he₄ he₅ he₆} {α : Type} {kk : PUnit → Prog (TpuEff nD τ sig (Elt F) Λ₀ (VT d L).2) α} {Q : α → sProp 𝕄} :
    iprop((∃ q, srcX d L x q) ∗ (∃ q, srcT d L t q) ∗ (∃ f, hX d L o ho f) ∗ (∃ f, hT d L o ho f) ∗ semVal (VT d L, SemLoc.dma s) 0)
      ⊢ iprop((((∃ q, srcX d L x q) ∗ (∃ q, srcT d L t q) ∗ Bat d L x t s o ho k 2 0)
          -∗ wp frame (wpE (defs₀ (F := F)) 𝒱₀ (VT d L) none) Set.univ (kk ⟨⟩) Q)
        -∗ wp frame (wpE (defs₀ (F := F)) 𝒱₀ (VT d L) none) Set.univ
            (.op (.enqueueDma (srcM xV off inb) (.here (halfM bX o ho)) (.dma s) he₁ he₂ he₃) fun _ =>
              .op (.enqueueDma (srcM tV off inb') (.here (halfM bT o ho)) (.dma s) he₄ he₅ he₆) kk) Q) := by
  iintro ⟨HX, HT, HhX, HhT, Hs⟩ Hk
  imod (Transfers.batch_alloc' (Lvl := ℕ) (EC (F := F)) (VT d L) (none : HIx 1) NC (deliv d L x t o ho k) (sm := .dma s) (E := Set.univ)) $$ Hs with HB
  iapply (wp_issueX d L x t s o ho ho32 k hk off hoff inb) $$ [HX HhX HB]
  · isplitl [HX]; · iexact HX
    isplitl [HhX]; · iexact HhX
    iexact HB
  iintro ⟨HX, HB⟩
  iapply (wp_issueT d L x t s o ho ho32 k hk off hoff inb') $$ [HT HhT HB]
  · isplitl [HT]; · iexact HT
    isplitl [HhT]; · iexact HhT
    iexact HB
  iintro ⟨HT, HB⟩
  iapply Hk
  isplitl [HX]; · iexact HX
  isplitl [HT]; · iexact HT
  iexact HB

end Cert.Proof.KI

end
-- ==== Proof.Tile.lean ====
/-
  A tile's run: five chunks, each waited for while the next one flies into the other half, then the sixteen-lane result copied out to the tile's row.
-/
module

public import proofs.«01_k».proof.Proof.Dma

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords) (x t : S32x512x512.Idx → Elt F .f32) (O : CellTallies nD τ sig (HIx 1))

abbrev s8 : DmaSem sig := (cc1_scratch3 : DmaSems sig S_).sem
abbrev s9 : DmaSem sig := (cc1_scratch4 : DmaSems sig S_).sem
abbrev s10 : DmaSem sig := (cc1_scoped0 : DmaSems sig S_).sem

/-- The two halves before trip `n`: one has its chunk flying in, the other is free. -/
def Ring (n : ℕ) : sProp 𝕄 :=
  if n % 2 = 0 then
    iprop(Bat d L x t s8 0 inb_S64x512_S32x512_0_0 (min n 4) 2 0 ∗ semVal (VT d L, SemLoc.dma s9) 0
      ∗ (∃ f, hX d L 32 inb_S64x512_S32x512_32_0 f) ∗ ∃ f, hT d L 32 inb_S64x512_S32x512_32_0 f)
  else
    iprop(Bat d L x t s9 32 inb_S64x512_S32x512_32_0 (min n 4) 2 0 ∗ semVal (VT d L, SemLoc.dma s8) 0
      ∗ (∃ f, hX d L 0 inb_S64x512_S32x512_0_0 f) ∗ ∃ f, hT d L 0 inb_S64x512_S32x512_0_0 f)

/-- What the tile holds before trip `n`, the accumulators at `acc`. -/
def Inv (n : ℕ) (acc : FVec F S16 .f32 × FVec F S16 .f32) : sProp 𝕄 :=
  iprop(Transfers.MayWaits (VT d L) (none : HIx 1) O ∗ ⌜acc = tileAcc x t (wOf L) n⌝ ∗ (∃ q, srcX d L x q) ∗ (∃ q, srcT d L t q)
    ∗ (∃ W, owes (VT d L) O W) ∗ Ring d L x t n)

theorem chunk_run' (o : ℕ) (t1 : Fin k1_t1_loop.trips) (ho : HalfInb o) (e : o = 32 * (t1.val % 2)) (k : ℕ)
    (v3 : BitVec 32) (v4 : FVec F S16 .f32) (v73 : BitVec 32) (a : FVec F S16 .f32 × FVec F S16 .f32) :
    iprop(hX d L o ho (chunkAt x (wOf L) k) ∗ hT d L o ho (chunkAt t (wOf L) k))
      ⊢ wp frame (wpE (defs₀ (F := F)) 𝒱₀ (VT d L) none) Set.univ
          (Scf.Loop.for k1_t2_loop k1_t2_ok a (k1_t2_body L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 v4 t1 v73))
          fun a' => iprop(⌜a' = chunkAcc x t (wOf L) k 32 a⌝
            ∗ hX d L o ho (chunkAt x (wOf L) k) ∗ hT d L o ho (chunkAt t (wOf L) k)) := by
  subst e; exact chunk_run d L x t k t1 ho v3 v4 v73 a

/-- One trip: the next chunk issued, this one waited for and reduced. -/
theorem trip_run (v3 : BitVec 32) (v4 : FVec F S16 .f32) (t1 : Fin k1_t1_loop.trips) (a : FVec F S16 .f32 × FVec F S16 .f32) :
    Inv d L x t O t1.val a
      ⊢ wp frame (wpE (defs₀ (F := F)) 𝒱₀ (VT d L) none) Set.univ
          (k1_t1_body L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 v4 t1 a)
          (Inv d L x t O (t1.val + 1)) := by
  obtain ⟨a1, a2⟩ := a
  have ht : t1.val < 5 := lt_of_lt_of_eq t1.isLt trips1
  have hmin : min t1.val 4 = t1.val := by omega
  have hk : min (t1.val + 1) 4 < 5 := by omega
  unfold Inv Ring
  rw [hmin]
  unfold k1_t1_body
  rcases Nat.mod_two_eq_zero_or_one t1.val with hp | hp
  · have h1 : k1_cond1 t1 = 1#1 := (cond1_iff t1).2 hp
    have h2 : ¬ k1_cond2 t1 = 1#1 := fun h => by have := (cond2_iff t1).1 h; omega
    have hp' : ¬ (t1.val + 1) % 2 = 0 := by omega
    rw [if_pos hp, if_neg hp']
    simp only [dif_pos h1, dif_neg h2, k1_part1_eq_skeleton, k1_part1_skel, Prog.bind_lift, Prog.bind_op, Prog.bind_ret, Prog.pure_eq_ret, bind_assoc]
    iintro ⟨#Hmw, %hacc, HX, HT, HO, HB, Hs, HhX, HhT⟩
    iapply (wp_issues d L x t s9 32 inb_S64x512_S32x512_32_0 (by decide) (min (t1.val + 1) 4) hk _ (k1_off2_eq L t1) _ _) $$ [HX HT HhX HhT Hs]
    · isplitl [HX]; · iexact HX
      isplitl [HT]; · iexact HT
      isplitl [HhX]; · iexact HhX
      isplitl [HhT]; · iexact HhT
      iexact Hs
    iintro ⟨HX, HT, HB'⟩
    iapply (wp_waits d L x t O s8 0 inb_S64x512_S32x512_0_0 t1.val inb_S32x512x512_S1x32x512_0_0_0) $$ [HB HO]
    · isplitr; · iexact Hmw
      isplitl [HB]; · iexact HB
      iexact HO
    iintro ⟨HhX, HhT, Hs, HO⟩
    iapply (wp_bind_pair d L)
    iapply (wp_wand_r Idealize.ShloMosaic.frame (wpE (defs₀ (F := F)) 𝒱₀ (VT d L) none) Set.univ)
    isplitl [HhX HhT]
    · iapply (chunk_run' d L x t 0 t1 inb_S64x512_S32x512_0_0 (by omega) t1.val)
      isplitl [HhX]; · iexact HhX
      iexact HhT
    iintro %a' ⟨%ha', HhX, HhT⟩
    isplitr; · iexact Hmw
    isplitr; · ipureintro; rw [ha', hacc]; rfl
    isplitl [HX]; · iexact HX
    isplitl [HT]; · iexact HT
    isplitl [HO]; · iexact HO
    isplitl [HB']; · iexact HB'
    isplitl [Hs]; · iexact Hs
    isplitl [HhX]; · iexists _; iexact HhX
    iexists _; iexact HhT
  · have h1 : ¬ k1_cond1 t1 = 1#1 := fun h => by have := (cond1_iff t1).1 h; omega
    have h2 : k1_cond2 t1 = 1#1 := (cond2_iff t1).2 hp
    have hp' : (t1.val + 1) % 2 = 0 := by omega
    rw [if_neg (by omega : ¬ t1.val % 2 = 0), if_pos hp']
    simp only [dif_neg h1, dif_pos h2, k1_part2_eq_skeleton, k1_part2_skel, Prog.bind_lift, Prog.bind_op, Prog.bind_ret, Prog.pure_eq_ret, bind_assoc]
    iintro ⟨#Hmw, %hacc, HX, HT, HO, HB, Hs, HhX, HhT⟩
    iapply (wp_issues d L x t s8 0 inb_S64x512_S32x512_0_0 (by decide) (min (t1.val + 1) 4) hk _ (k1_off3_eq L t1) _ _) $$ [HX HT HhX HhT Hs]
    · isplitl [HX]; · iexact HX
      isplitl [HT]; · iexact HT
      isplitl [HhX]; · iexact HhX
      isplitl [HhT]; · iexact HhT
      iexact Hs
    iintro ⟨HX, HT, HB'⟩
    iapply (wp_waits d L x t O s9 32 inb_S64x512_S32x512_32_0 t1.val inb_S32x512x512_S1x32x512_0_0_0) $$ [HB HO]
    · isplitr; · iexact Hmw
      isplitl [HB]; · iexact HB
      iexact HO
    iintro ⟨HhX, HhT, Hs, HO⟩
    iapply (wp_bind_pair d L)
    iapply (wp_wand_r Idealize.ShloMosaic.frame (wpE (defs₀ (F := F)) 𝒱₀ (VT d L) none) Set.univ)
    isplitl [HhX HhT]
    · iapply (chunk_run' d L x t 32 t1 inb_S64x512_S32x512_32_0 (by omega) t1.val)
      isplitl [HhX]; · iexact HhX
      iexact HhT
    iintro %a' ⟨%ha', HhX, HhT⟩
    isplitr; · iexact Hmw
    isplitr; · ipureintro; rw [ha', hacc]; rfl
    isplitl [HX]; · iexact HX
    isplitl [HT]; · iexact HT
    isplitl [HO]; · iexact HO
    isplitl [HB']; · iexact HB'
    isplitl [Hs]; · iexact Hs
    isplitl [HhX]; · iexists _; iexact HhX
    iexists _; iexact HhT

theorem inv_zero (v4 : FVec F S16 .f32) (hv : v4 = k1_pay6) :
    iprop(Transfers.MayWaits (VT d L) (none : HIx 1) O ∗ (∃ q, srcX d L x q) ∗ (∃ q, srcT d L t q) ∗ (∃ W, owes (VT d L) O W)
        ∗ Bat d L x t s8 0 inb_S64x512_S32x512_0_0 0 2 0 ∗ semVal (VT d L, SemLoc.dma s9) 0
        ∗ (∃ f, hX d L 32 inb_S64x512_S32x512_32_0 f) ∗ ∃ f, hT d L 32 inb_S64x512_S32x512_32_0 f)
      ⊢ Inv d L x t O 0 (v4, v4) := by
  subst hv
  unfold Inv Ring
  rw [if_pos (by decide), show min 0 4 = 0 from rfl]
  iintro ⟨Hm, HX, HT, HO, HR⟩
  isplitl [Hm]; · iexact Hm
  isplitr; · ipureintro; rfl
  isplitl [HX]; · iexact HX
  isplitl [HT]; · iexact HT
  isplitl [HO]; · iexact HO
  iexact HR

theorem inv_last (acc : FVec F S16 .f32 × FVec F S16 .f32) :
    Inv d L x t O k1_t1_loop.trips acc
      ⊢ iprop(Transfers.MayWaits (VT d L) (none : HIx 1) O ∗ ⌜acc = tileAcc x t (wOf L) 5⌝ ∗ (∃ q, srcX d L x q) ∗ (∃ q, srcT d L t q) ∗ (∃ W, owes (VT d L) O W)
        ∗ Bat d L x t s9 32 inb_S64x512_S32x512_32_0 4 2 0 ∗ semVal (VT d L, SemLoc.dma s8) 0
        ∗ (∃ f, hX d L 0 inb_S64x512_S32x512_0_0 f) ∗ ∃ f, hT d L 0 inb_S64x512_S32x512_0_0 f) := by
  rw [trips1]
  unfold Inv Ring
  rw [if_neg (by decide), show min 5 4 = 4 from rfl]

/-- All the chunks: the two accumulators' sum. -/
theorem chunks_run (v3 : BitVec 32) :
    iprop(Transfers.MayWaits (VT d L) (none : HIx 1) O ∗ (∃ q, srcX d L x q) ∗ (∃ q, srcT d L t q) ∗ (∃ W, owes (VT d L) O W)
        ∗ semVal (VT d L, SemLoc.dma s8) 0 ∗ semVal (VT d L, SemLoc.dma s9) 0
        ∗ (∃ f, hX d L 0 inb_S64x512_S32x512_0_0 f) ∗ (∃ f, hT d L 0 inb_S64x512_S32x512_0_0 f)
        ∗ (∃ f, hX d L 32 inb_S64x512_S32x512_32_0 f) ∗ ∃ f, hT d L 32 inb_S64x512_S32x512_32_0 f)
      ⊢ wp frame (wpE (defs₀ (F := F)) 𝒱₀ (VT d L) none) Set.univ
          (k1_part5 L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0 v3 k1_pay6)
          fun v => iprop(⌜v = k1_pay8 (tileAcc x t (wOf L) 5).1 (tileAcc x t (wOf L) 5).2⌝ ∗ (∃ W, owes (VT d L) O W)
            ∗ semVal (VT d L, SemLoc.dma s8) 0 ∗ semVal (VT d L, SemLoc.dma s9) 0
            ∗ (∃ f, hX d L 0 inb_S64x512_S32x512_0_0 f) ∗ (∃ f, hT d L 0 inb_S64x512_S32x512_0_0 f)
            ∗ (∃ f, hX d L 32 inb_S64x512_S32x512_32_0 f) ∗ ∃ f, hT d L 32 inb_S64x512_S32x512_32_0 f) := by
  simp only [k1_part5_eq_skeleton, k1_part5_skel, Scf.Loop.for, Prog.bind_lift, Prog.bind_op, Prog.bind_ret, Prog.pure_eq_ret, bind_assoc]
  iintro ⟨#Hmw, HX, HT, HO, Hs8, Hs9, HX0, HT0, HX1, HT1⟩
  iapply (wp_issues d L x t s8 0 inb_S64x512_S32x512_0_0 (by decide) 0 (by decide) _ (k1_off1_eq L) _ _) $$ [HX HT HX0 HT0 Hs8]
  · isplitl [HX]; · iexact HX
    isplitl [HT]; · iexact HT
    isplitl [HX0]; · iexact HX0
    isplitl [HT0]; · iexact HT0
    iexact Hs8
  iintro ⟨HX, HT, HB⟩
  iapply (Scf.wp_for_bind frame (wpE (defs₀ (F := F)) 𝒱₀ (VT d L) none) Set.univ _ _ _ _ (k1_pay6, k1_pay6) _ (Inv d L x t O)
    (fun n acc => trip_run d L x t O v3 k1_pay6 n acc)) $$ [HX HT HO HB Hs9 HX1 HT1]
  · iapply (inv_zero d L x t O _ rfl)
    isplitr; · iexact Hmw
    isplitl [HX]; · iexact HX
    isplitl [HT]; · iexact HT
    isplitl [HO]; · iexact HO
    isplitl [HB]; · iexact HB
    isplitl [Hs9]; · iexact Hs9
    isplitl [HX1]; · iexact HX1
    iexact HT1
  iintro %acc HI
  ihave HI' := (inv_last d L x t O acc) $$ HI
  icases HI' with ⟨-, %hacc, HX, HT, HO, HB, Hs8, HX0, HT0⟩
  obtain ⟨a1, a2⟩ := acc
  dsimp only
  iapply (wp_waits d L x t O s9 32 inb_S64x512_S32x512_32_0 4 inb_S32x512x512_S1x32x512_0_0_0) $$ [HB HO]
  · isplitr; · iexact Hmw
    isplitl [HB]; · iexact HB
    iexact HO
  iintro ⟨HX1, HT1, Hs9, HO⟩
  rw [wp_ret]
  imodintro
  isplitr; · ipureintro; rw [← hacc]
  isplitl [HO]; · iexact HO
  isplitl [Hs8]; · iexact Hs8
  isplitl [Hs9]; · iexact Hs9
  isplitl [HX0]; · iexact HX0
  isplitl [HT0]; · iexact HT0
  isplitl [HX1]; · iexists _; iexact HX1
  iexists _; iexact HT1

/-! ## The copy out -/

/-- The tile's row of the result, as the body slices it. -/
abbrev oRow : Memref sig .scVector .hbm S16 .f32 :=
  ((oV).slice (Rect.unit (s := S32x16) (k1_off6 L) S1x16.size (k1_off6_inb L)) (fun _ => rfl)).squeeze S16 squeezes_S1x16_S16

abbrev wFin : Fin 32 := ⟨wOf L, wOf_lt L⟩

theorem set_oRow : (oRow L).view.set = rowSet (wFin L) := by
  show (((oV).view.slice (Rect.unit (s := S32x16) (k1_off6 L) S1x16.size (k1_off6_inb L))).reshape S16 squeezes_S1x16_S16.numel_eq).set = _
  rw [View.set_reshape]
  show ((View.whole (main_v1_scv : Ref sig .scVector)).slice _).set = _
  rw [View.set_slice_whole]
  ext j
  rw [rowSet, rowR, Rect.block, Rect.mem_set_unit, Rect.mem_set_unit, k1_off6_eq]
  have e : ∀ a, (![2 * (L 1).val + (L 0).val, 0] : Fin 2 → ℕ) a = (![(wFin L).val, 0] : Fin 2 → ℕ) a * S1x16.size a := by
    intro a; fin_cases a
    · show 2 * (L 1).val + (L 0).val = wOf L * 1; unfold wOf; omega
    · rfl
  constructor
  · intro h a; rw [← e a]; exact h a
  · intro h a; have := h a; rw [← e a] at this; exact this

/-- The sixteen lanes landed in the tile's row are that row of the result. -/
theorem landed_row (fd : S32x16.Idx → Elt F .f32) :
    ∀ i ∈ (oRow L).view.set, (oRow L).view.write (Elt F) fd (ReadAs.same.apply ((bA).view.read (Elt F) (tileVec x t (wOf L)))) Finset.univ i = scRes x t i := by
  intro i hi
  obtain ⟨j, -, rfl⟩ := Finset.mem_map.mp hi
  rw [View.write_emb_of_mem _ _ (Finset.mem_univ _)]
  have e : Shape.reshapeEquiv squeezes_S1x16_S16.numel_eq j = ValueIdx.ix2 (⟨0, Nat.one_pos⟩ : Fin 1) (j 0) :=
    Shape.reshapeEquiv_eq_of_rowMajor _ ((Shape.rowMajor_val_two (ValueIdx.ix2 (⟨0, Nat.one_pos⟩ : Fin 1) (j 0))).trans
      ((show 0 * 16 + (j 0).val = (j 0).val by omega).trans (Shape.rowMajor_val_one j).symm))
  have he : ((oRow L).view.emb j : S32x16.Idx) = (Rect.unit (s := S32x16) (k1_off6 L) S1x16.size (k1_off6_inb L)).emb (ValueIdx.ix2 (⟨0, Nat.one_pos⟩ : Fin 1) (j 0)) :=
    congrArg (Rect.unit (s := S32x16) (k1_off6 L) S1x16.size (k1_off6_inb L)).emb e
  rw [he]
  have h0 : ((Rect.unit (s := S32x16) (k1_off6 L) S1x16.size (k1_off6_inb L)).emb (ValueIdx.ix2 (⟨0, Nat.one_pos⟩ : Fin 1) (j 0)) 0).val = wOf L := by
    show k1_off6 L 0 + 1 * 0 = wOf L
    rw [k1_off6_eq]; rfl
  have h1 : ((Rect.unit (s := S32x16) (k1_off6 L) S1x16.size (k1_off6_inb L)).emb (ValueIdx.ix2 (⟨0, Nat.one_pos⟩ : Fin 1) (j 0)) 1).val = (j 0).val := by
    show k1_off6 L 1 + 1 * (j 0).val = (j 0).val
    rw [k1_off6_eq]; show 0 + 1 * (j 0).val = (j 0).val; omega
  show tileVec x t (wOf L) j = tileVec x t _ _
  rw [h0]
  congr 1
  funext a
  fin_cases a
  exact Fin.ext h1.symm

/-- The copy out delivers the tile's row of the result. -/
def delivO : Fin 1 → sProp 𝕄 := fun _ =>
  iprop(((oRow L).view.loc (VT d L) ↦[(oRow L).view.set]{fullShare} scRes x t) ∗ ((bA).view.loc (VT d L) ↦[(bA).view.set]{fullShare} tileVec x t (wOf L)))

instance delivO_storable : ∀ i, BI.Storable (upEmb : UEmb _ 𝕄) (delivO d L x t i) := fun _ => by unfold delivO; infer_instance

abbrev NO : ℕ := (main_v1_scv : Ref sig .scVector).dmaCredit S16 .f32
theorem NO_pos : 0 < NO := by decide +kernel

abbrev ptsA (f : S16.Idx → Elt F .f32) : sProp 𝕄 := ((bA).view.loc (VT d L) ↦[(bA).view.set]{fullShare} f)

/-- The result stored whole into the sixteen-lane scratch. -/
theorem wp_storeA (f w : S16.Idx → Elt F .f32) (inb) {hx hm} {α : Type} {kk : PUnit → Prog (TpuEff nD τ sig (Elt F) Λ₀ (VT d L).2) α} {Q : α → sProp 𝕄} :
    ptsA d L f ⊢ iprop((ptsA d L w -∗ wp frame (wpE (defs₀ (F := F)) 𝒱₀ (VT d L) none) Set.univ (kk ⟨⟩) Q)
      -∗ wp frame (wpE (defs₀ (F := F)) 𝒱₀ (VT d L) none) Set.univ (.op (.store bA (Rect.unit (s := S16) ![0] S16.size inb) w Finset.univ hx hm) kk) Q) := by
  have hS : ((bA).access (Rect.unit (s := S16) ![0] S16.size inb)).setOn Finset.univ ⊆ (show Finset S16.Idx from (bA).view.set) :=
    fun i _ => Finset.mem_map.2 ⟨i, Finset.mem_univ _, rfl⟩
  have h : ptsA d L f ⊢ iprop((ptsA d L (((bA).access (Rect.unit (s := S16) ![0] S16.size inb)).write (Elt F) f w Finset.univ) -∗ wp frame (wpE (defs₀ (F := F)) 𝒱₀ (VT d L) none) Set.univ (kk ⟨⟩) Q)
      -∗ wp frame (wpE (defs₀ (F := F)) 𝒱₀ (VT d L) none) Set.univ (.op (.store bA (Rect.unit (s := S16) ![0] S16.size inb) w Finset.univ hx hm) kk) Q) :=
    wp_store 𝒱₀ (VT d L) none Set.univ (m := bA) (r := Rect.unit (s := S16) ![0] S16.size inb) (w := w) (Mk := Finset.univ) hS
  have e : ((bA).access (Rect.unit (s := S16) ![0] S16.size inb)).write (Elt F) f w Finset.univ = w := by
    funext i
    have hi : ((bA).access (Rect.unit (s := S16) ![0] S16.size inb)).emb i = i := by
      funext a; fin_cases a; apply Fin.ext; show 0 + 1 * (i 0).val = (i 0).val; omega
    have := View.write_emb_of_mem (Val := Elt F) (v := (bA).access (Rect.unit (s := S16) ![0] S16.size inb)) f w (Finset.mem_univ i)
    rw [hi] at this
    exact this
  rw [e] at h
  exact h

/-- The tile's body, run from the pieces in the body's spelling. -/
theorem body_run :
    iprop(Transfers.MayWaits (VT d L) (none : HIx 1) O ∗ (∃ q, srcX d L x q) ∗ (∃ q, srcT d L t q) ∗ (∃ W, owes (VT d L) O W)
        ∗ (∃ f, (oRow L).view.loc (VT d L) ↦[(oRow L).view.set]{fullShare} f)
        ∗ semVal (VT d L, SemLoc.dma s8) 0 ∗ semVal (VT d L, SemLoc.dma s9) 0 ∗ semVal (VT d L, SemLoc.dma s10) 0
        ∗ (∃ f, hX d L 0 inb_S64x512_S32x512_0_0 f) ∗ (∃ f, hT d L 0 inb_S64x512_S32x512_0_0 f)
        ∗ (∃ f, hX d L 32 inb_S64x512_S32x512_32_0 f) ∗ (∃ f, hT d L 32 inb_S64x512_S32x512_32_0 f)
        ∗ ∃ f, (bA).view.loc (VT d L) ↦[(bA).view.set]{fullShare} f)
      ⊢ wp frame (wpE (defs₀ (F := F)) 𝒱₀ (VT d L) none) Set.univ
          (cc1__sc_loss L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0)
          fun _ => iprop(((oRow L).view.loc (VT d L) ↦[(oRow L).view.set]{fullShare} scRes x t) ∗ (∃ W, owes (VT d L) O W)
            ∗ semVal (VT d L, SemLoc.dma s8) 0 ∗ semVal (VT d L, SemLoc.dma s9) 0 ∗ semVal (VT d L, SemLoc.dma s10) 0
            ∗ (∃ f, hX d L 0 inb_S64x512_S32x512_0_0 f) ∗ (∃ f, hT d L 0 inb_S64x512_S32x512_0_0 f)
            ∗ (∃ f, hX d L 32 inb_S64x512_S32x512_32_0 f) ∗ (∃ f, hT d L 32 inb_S64x512_S32x512_32_0 f)
            ∗ ∃ f, (bA).view.loc (VT d L) ↦[(bA).view.set]{fullShare} f) := by
  simp only [cc1__sc_loss_eq_skeleton, cc1__sc_loss_skel, k1_part4_eq_skeleton, k1_part4_skel, Prog.bind_lift, Prog.bind_op, Prog.bind_ret, Prog.pure_eq_ret, bind_assoc]
  iintro ⟨#Hmw, HX, HT, HO, ⟨%fo, Hrow⟩, Hs8, Hs9, Hs10, HX0, HT0, HX1, HT1, ⟨%fa, HA⟩⟩
  rw [wp_bind]
  iapply (wp_wand_r Idealize.ShloMosaic.frame (wpE (defs₀ (F := F)) 𝒱₀ (VT d L) none) Set.univ)
  isplitl [HX HT HO Hs8 Hs9 HX0 HT0 HX1 HT1]
  · iapply (chunks_run d L x t O _)
    isplitr; · iexact Hmw
    isplitl [HX]; · iexact HX
    isplitl [HT]; · iexact HT
    isplitl [HO]; · iexact HO
    isplitl [Hs8]; · iexact Hs8
    isplitl [Hs9]; · iexact Hs9
    isplitl [HX0]; · iexact HX0
    isplitl [HT0]; · iexact HT0
    isplitl [HX1]; · iexact HX1
    iexact HT1
  iintro %v ⟨%hv, ⟨%W, HO⟩, Hs8, Hs9, HX0, HT0, HX1, HT1⟩
  subst hv
  iapply (wp_load 𝒱₀ (VT d L) none Set.univ (m := bA) (S := (bA).view.set) (q := fullShare) (f := fa) (View.setOn_subset_set _ _)) $$ [HA]
  · iexact HA
  iintro HA
  iapply (wp_storeA d L fa _ _) $$ [HA]
  · iexact HA
  iintro HA
  imod (Transfers.batch_alloc' (Lvl := ℕ) (EC (F := F)) (VT d L) (none : HIx 1) NO (delivO d L x t) (sm := .dma s10) (E := Set.univ)) $$ Hs10 with HB
  iapply (Transfers.wp_dmaBatch (EC (F := F)) 𝒱₀ (VT d L) none (src := bA) (dst := oRow L) (none : HIx 1) NO rfl subset_rfl
    (D := delivO d L x t) (j := 0) (u := 0) (fs := tileVec x t (wOf L)) (q := fullShare) (by decide) (Nat.zero_le _)
    (sep_mono (Entails.of_eq (pointsTo_congr (landed_row L x t fo))) .rfl)) $$ [Hrow HA HB]
  · isplitl [HA]; · iexact HA
    isplitl [Hrow]; · iexact Hrow
    iexact HB
  iintro HB
  iapply (Transfers.wp_waitBatchLastO (EC (F := F)) 𝒱₀ (VT d L) none (none : HIx 1) (N := NO) rfl NO_pos (D := delivO d L x t) (u := 0) (O := O) (by omega)) $$ [HB HO]
  · isplitl [HB]; · iexact HB
    isplitl [HO]; · iexact HO
    iapply (Transfers.MayWaits.elim (SemLoc.dma s10)); iexact Hmw
  iintro ⟨HD, Hs10, HO⟩
  ihave HD' := (Entails.of_eq (Idealize.SL.BI.bigSep_univ_eq_bigSepL [0] (by decide) (by decide) (delivO d L x t))) $$ HD
  ihave HD'' := (show bigSepL [(0 : Fin 1)] (delivO d L x t) ⊢ delivO d L x t 0 from .rfl) $$ HD'
  unfold delivO
  icases HD'' with ⟨Hrow, HA⟩
  rw [wp_ret]
  imodintro
  isplitl [Hrow]; · iexact Hrow
  isplitl [HO]; · iexists _; iexact HO
  isplitl [Hs8]; · iexact Hs8
  isplitl [Hs9]; · iexact Hs9
  isplitl [Hs10]; · iexact Hs10
  isplitl [HX0]; · iexact HX0
  isplitl [HT0]; · iexact HT0
  isplitl [HX1]; · iexact HX1
  isplitl [HT1]; · iexact HT1
  iexists _; iexact HA

end Cert.Proof.KI

end
-- ==== Proof.TileObl.lean ====
/-
  The tile's obligation to the launch: from what the launch deals a tile to what the tile hands back; and the split of a SparseCore's deal among its tiles.
-/
module

public import proofs.«01_k».proof.Proof.Tile

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)
variable (d : Dev nD) (L : grid1.Coords)

abbrev dcell (k : Fin 3) : GSem nD τ sig := (VT d L, .dma (⟨k.val + 5, by have := k.isLt; show k.val + 5 < 8; omega⟩ : DmaSem sig))

omit [FloatOps F] in
theorem dcell_mem (k : Fin 3) : dcell d L k ∈ ownCells (VT d L) :=
  mem_ownCells.mpr ⟨rfl, (show ∀ k : Fin 3, (SemLoc.dma (⟨k.val + 5, by have := k.isLt; show k.val + 5 < 8; omega⟩ : DmaSem sig) : SemLoc sig).isScoped .scVector = true by decide) _⟩

omit [FloatOps F] in
theorem ownSems0_V :
    (ownSems0 (VT d L) : sProp 𝕄)
      = iprop((semVal (VT d L, SemLoc.dma s8) 0 ∗ semVal (VT d L, SemLoc.dma s9) 0 ∗ semVal (VT d L, SemLoc.dma s10) 0)
          ∗ bigSep ((ownCells (VT d L)) \ Finset.univ.image (dcell d L)) fun g => semVal g 0) := by
  unfold SparseCore.Cfg.ownSems0
  rw [SparseCore.bigSep_sdiff_split' (t := Finset.univ.image (dcell d L))
      (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 3)) = {0, 1, 2} by decide,
    SparseCore.bigSep_insert' (by decide), SparseCore.bigSep_insert' (by decide), bigSep_singleton]
  rfl

omit [FloatOps F] in
theorem ownBufs_V :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem half_mem (o : ℕ) (ho : HalfInb o) (i : S64x512.Idx) : i ∈ (Rect.unit (s := S64x512) ![o, 0] S32x512.size ho).set ↔ o ≤ (i 0).val ∧ (i 0).val < o + 32 := by
  rw [Rect.mem_set_unit]
  have h1 : (i 1).val < 512 := (i 1).isLt
  constructor
  · intro h; exact h 0
  · intro h a; fin_cases a
    · exact h
    · show 0 ≤ (i 1).val ∧ (i 1).val < 0 + 512; omega

abbrev half0 : Finset S64x512.Idx := (Rect.unit (s := S64x512) ![0, 0] S32x512.size inb_S64x512_S32x512_0_0).set
abbrev half1 : Finset S64x512.Idx := (Rect.unit (s := S64x512) ![32, 0] S32x512.size inb_S64x512_S32x512_32_0).set

omit [FloatOps F] in
theorem halves_disjoint : Disjoint half0 half1 := by
  refine Finset.disjoint_left.2 fun i h0 h1 => ?_
  have := (half_mem 0 inb_S64x512_S32x512_0_0 i).1 h0
  have := (half_mem 32 inb_S64x512_S32x512_32_0 i).1 h1
  omega
omit [FloatOps F] in
theorem halves_cover : half0 ∪ half1 = Finset.univ := by
  refine Finset.eq_univ_of_forall fun i => ?_
  have h0 : (i 0).val < 64 := (i 0).isLt
  by_cases h : (i 0).val < 32
  · exact Finset.mem_union_left _ ((half_mem 0 inb_S64x512_S32x512_0_0 i).2 ⟨by omega, by omega⟩)
  · exact Finset.mem_union_right _ ((half_mem 32 inb_S64x512_S32x512_32_0 i).2 ⟨by omega, by omega⟩)

omit [FloatOps F] in
theorem halves_X : (iprop(∃ f, (VT d L).loc cc1_scratch0 ↦{fullShare} f) : sProp 𝕄)
    ⊣⊢ iprop((∃ f, hX d L 0 inb_S64x512_S32x512_0_0 f) ∗ ∃ f, hX d L 32 inb_S64x512_S32x512_32_0 f) := by
  have s0 : (halfM bX 0 inb_S64x512_S32x512_0_0).view.set = half0 := View.set_slice_whole (cc1_scratch0 : Ref sig .scVector) _
  have s1 : (halfM bX 32 inb_S64x512_S32x512_32_0).view.set = half1 := View.set_slice_whole (cc1_scratch0 : Ref sig .scVector) _
  unfold hX
  rw [s0, s1]
  constructor
  · iintro ⟨%f, H⟩
    ihave H' := (show (((VT d L).loc cc1_scratch0 ↦{fullShare} f : sProp 𝕄) ⊢ iprop(((VT d L).loc cc1_scratch0 ↦[half0]{fullShare} f) ∗ (VT d L).loc cc1_scratch0 ↦[half1]{fullShare} f)) from
      (Entails.of_eq (by rw [← halves_cover])).trans (pointsTo_union halves_disjoint).1) $$ H
    icases H' with ⟨H0, H1⟩
    isplitl [H0]; · iexists f; iexact H0
    iexists f; iexact H1
  · iintro ⟨⟨%f, H0⟩, ⟨%g, H1⟩⟩
    iexists (half1.piecewise g f)
    iapply (show (iprop(((VT d L).loc cc1_scratch0 ↦[half0]{fullShare} f) ∗ (VT d L).loc cc1_scratch0 ↦[half1]{fullShare} g) : sProp 𝕄) ⊢ ((VT d L).loc cc1_scratch0 ↦{fullShare} (half1.piecewise g f)) from
      (pointsTo_join halves_disjoint).trans (Entails.of_eq (by rw [← halves_cover])))
    isplitl [H0]; · iexact H0
    iexact H1
omit [FloatOps F] in
theorem halves_T : (iprop(∃ f, (VT d L).loc cc1_scratch1 ↦{fullShare} f) : sProp 𝕄)
    ⊣⊢ iprop((∃ f, hT d L 0 inb_S64x512_S32x512_0_0 f) ∗ ∃ f, hT d L 32 inb_S64x512_S32x512_32_0 f) := by
  have s0 : (halfM bT 0 inb_S64x512_S32x512_0_0).view.set = half0 := View.set_slice_whole (cc1_scratch1 : Ref sig .scVector) _
  have s1 : (halfM bT 32 inb_S64x512_S32x512_32_0).view.set = half1 := View.set_slice_whole (cc1_scratch1 : Ref sig .scVector) _
  unfold hT
  rw [s0, s1]
  constructor
  · iintro ⟨%f, H⟩
    ihave H' := (show (((VT d L).loc cc1_scratch1 ↦{fullShare} f : sProp 𝕄) ⊢ iprop(((VT d L).loc cc1_scratch1 ↦[half0]{fullShare} f) ∗ (VT d L).loc cc1_scratch1 ↦[half1]{fullShare} f)) from
      (Entails.of_eq (by rw [← halves_cover])).trans (pointsTo_union halves_disjoint).1) $$ H
    icases H' with ⟨H0, H1⟩
    isplitl [H0]; · iexists f; iexact H0
    iexists f; iexact H1
  · iintro ⟨⟨%f, H0⟩, ⟨%g, H1⟩⟩
    iexists (half1.piecewise g f)
    iapply (show (iprop(((VT d L).loc cc1_scratch1 ↦[half0]{fullShare} f) ∗ (VT d L).loc cc1_scratch1 ↦[half1]{fullShare} g) : sProp 𝕄) ⊢ ((VT d L).loc cc1_scratch1 ↦{fullShare} (half1.piecewise g f)) from
      (pointsTo_join halves_disjoint).trans (Entails.of_eq (by rw [← halves_cover])))
    isplitl [H0]; · iexact H0
    iexact H1

omit [FloatOps F] in
theorem pts_A (f : S16.Idx → Elt F .f32) :
    ((bA).view.loc (VT d L) ↦[(bA).view.set]{fullShare} f : sProp 𝕄) = (VT d L).loc cc1_scratch2 ↦{fullShare} f := by
  rw [View.set_whole]

/-- The task on a tile, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d (wFin L) ∗ scopedBufs (VT d L) ∗ scopedSems0 (VT d L) ∗ owes (VT d L) O W)
      ⊢ wp frame (wpE (defs₀ (F := F)) 𝒱₀ (VT d L) none) Set.univ
          (cc1__sc_loss L xV (Memref.isWhole_whole _) tV (Memref.isWhole_whole _) oV (Memref.isWhole_whole _) bX (Memref.isWhole_whole _) bT (Memref.isWhole_whole _)
            bA (Memref.isWhole_whole _) cc1_scratch3 cc1_scratch4 cc1_scoped0)
          fun _ => iprop(tdPts m d (wFin L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Ht, ⟨%fo, Ho⟩⟩, ⟨HbX, HbT, ⟨%fa, HbA⟩, Hbufs⟩, ⟨⟨Hs8, Hs9, Hs10⟩, Hsems⟩, HO⟩
  ihave Hmw := (show levAts (K (F := F)).L (K (F := F)).lev ⊢ Transfers.MayWaits (VT d L) (none : HIx 1) O from
    (K (F := F)).mayWaits_none (thr := VT d L) hO) $$ Hlv
  ihave HbX' := (halves_X d L).1 $$ HbX
  icases HbX' with ⟨HX0, HX1⟩
  ihave HbT' := (halves_T d L).1 $$ HbT
  icases HbT' with ⟨HT0, HT1⟩
  iapply (wp_wand_r Idealize.ShloMosaic.frame (wpE (defs₀ (F := F)) 𝒱₀ (VT d L) none) Set.univ)
  isplitl [Hmw Hx Ht Ho HbA HX0 HX1 HT0 HT1 Hs8 Hs9 Hs10 HO]
  · iapply (body_run d L (m (xLoc d)) (m (tLoc d)) O)
    isplitl [Hmw]; · iexact Hmw
    isplitl [Hx]; · iexists _; iexact Hx
    isplitl [Ht]; · iexists _; iexact Ht
    isplitl [HO]; · iexists _; iexact HO
    isplitl [Ho]
    · iexists fo
      iapply (show ((oLoc d ↦[rowSet (wFin L)]{fullShare} fo : sProp 𝕄) ⊢ ((oRow L).view.loc (VT d L) ↦[(oRow L).view.set]{fullShare} fo)) from Entails.of_eq (by rw [set_oRow]))
      iexact Ho
    isplitl [Hs8]; · iexact Hs8
    isplitl [Hs9]; · iexact Hs9
    isplitl [Hs10]; · iexact Hs10
    isplitl [HX0]; · iexact HX0
    isplitl [HT0]; · iexact HT0
    isplitl [HX1]; · iexact HX1
    isplitl [HT1]; · iexact HT1
    iexists fa
    iapply (Entails.of_eq (pts_A (F := F) d L fa).symm)
    iexact HbA
  iintro %_ ⟨Ho, ⟨%W', HO⟩, Hs8, Hs9, Hs10, HX0, HT0, HX1, HT1, ⟨%fa', HA⟩⟩
  isplitl [Ho]
  · iapply (show (((oRow L).view.loc (VT d L) ↦[(oRow L).view.set]{fullShare} scRes (m (xLoc d)) (m (tLoc d)) : sProp 𝕄) ⊢ tdPts m d (wFin L)) from Entails.of_eq (by rw [set_oRow]))
    iexact Ho
  isplitl [HX0 HX1 HT0 HT1 HA Hbufs]
  · isplitl [HX0 HX1]
    · iapply (halves_X d L).2
      isplitl [HX0]; · iexact HX0
      iexact HX1
    isplitl [HT0 HT1]
    · iapply (halves_T d L).2
      isplitl [HT0]; · iexact HT0
      iexact HT1
    isplitl [HA]
    · iexists fa'
      iapply (Entails.of_eq (pts_A (F := F) d L fa'))
      iexact HA
    iexact Hbufs
  isplitl [Hs8 Hs9 Hs10 Hsems]
  · isplitl [Hs8 Hs9 Hs10]
    · isplitl [Hs8]; · iexact Hs8
      isplitl [Hs9]; · iexact Hs9
      iexact Hs10
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_loss (coordsV c s)
          xV (Memref.isWhole_whole _) tV (Memref.isWhole_whole _) oV (Memref.isWhole_whole _) bX (Memref.isWhole_whole _) bT (Memref.isWhole_whole _)
            bA (Memref.isWhole_whole _) cc1_scratch3 cc1_scratch4 cc1_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a sequencer receives is exactly what its sixteen tiles receive, and the same on the way back. -/
theorem vecSplit : (K (F := F)).VecSplit' (P m) 0 := by
  intro d c
  show (bigSep Finset.univ fun i : Fin 16 => goPts m d (widOf (Fin.cast nCore_zero c) i)) ⊢ |={Set.univ}=> iprop(
      (bigSep Finset.univ fun i : Fin ((K (F := F)).nSub 0) => goPts m d (widOf (Fin.cast nCore_zero c) (Fin.cast nSub_zero i)))
      ∗ ((bigSep Finset.univ fun i : Fin ((K (F := F)).nSub 0) => tdPts m d (widOf (Fin.cast nCore_zero c) (Fin.cast nSub_zero i)))
          -∗ bigSep Finset.univ fun i : Fin 16 => tdPts m d (widOf (Fin.cast nCore_zero c) i)))
  rw [bigSep_tasks (F := F) (fun i => goPts m d (widOf (Fin.cast nCore_zero c) i)),
    bigSep_tasks (F := F) (fun i => tdPts m d (widOf (Fin.cast nCore_zero c) i))]
  iintro H
  imodintro
  isplitl [H]
  · iexact H
  iintro H
  iexact H

end Cert.Proof.KI

end
-- ==== Proof.Deal.lean ====
/-
  The arrays around the calls: how @main's buffers are dealt to the tiles and joined again, and the six host operations that follow.
-/
module

public import proofs.«01_k».proof.Proof.Region
public import proofs.«01_k».proof.Proof.TileObl
public import Idealize.ShloMosaic.Lib.StableHlo.Run

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

/-! ## The host operations after the two kernels -/

abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst0' : DevRef τ sig := Proc.devRef .tc (main_cst_0 : Ref sig .tc)
abbrev v5' : DevRef τ sig := Proc.devRef .tc (main_v5 : Ref sig .tc)

abbrev op1 : HloOp τ sig (Elt F) := StableHlo.nullary main_cst (constant S_ .f32 0x00000000#32)
abbrev op2 : HloOp τ sig (Elt F) := StableHlo.binary main_v1 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op3 : HloOp τ sig (Elt F) := StableHlo.reshape main_v0 main_v3 (rfl : (.f32 : EltTy) = .f32) shapeCasts_S1x1_S_
abbrev op4 : HloOp τ sig (Elt F) := StableHlo.binary main_v2 main_v3 main_v4 (addf : (⟨S_, .f32⟩ : BufTy).Contents (Elt F) → (⟨S_, .f32⟩ : BufTy).Contents (Elt F) → (⟨S_, .f32⟩ : BufTy).Contents (Elt F))
abbrev op5 : HloOp τ sig (Elt F) := StableHlo.nullary main_cst_0 (constant S_ .f32 0x31CCCCCD#32)
abbrev op6 : HloOp τ sig (Elt F) := StableHlo.binary main_v4 main_cst_0 main_v5 (mulf : (⟨S_, .f32⟩ : BufTy).Contents (Elt F) → (⟨S_, .f32⟩ : BufTy).Contents (Elt F) → (⟨S_, .f32⟩ : BufTy).Contents (Elt F))

abbrev S8 : Finset (DevRef τ sig) := {v0', v1', cst', v2', v3', v4', cst0', v5'}

theorem hop1 : (op1 (F := F)).bufs ⊆ S8 := show ({cst'} : Finset (DevRef τ sig)) ⊆ S8 by decide
theorem hop2 : (op2 (F := F)).bufs ⊆ S8 := show ({v1', cst', v2'} : Finset (DevRef τ sig)) ⊆ S8 by decide
theorem hop3 : (op3 (F := F)).bufs ⊆ S8 := show ({v0', v3'} : Finset (DevRef τ sig)) ⊆ S8 by decide
theorem hop4 : (op4 (F := F)).bufs ⊆ S8 := show ({v2', v3', v4'} : Finset (DevRef τ sig)) ⊆ S8 by decide
theorem hop5 : (op5 (F := F)).bufs ⊆ S8 := show ({cst0'} : Finset (DevRef τ sig)) ⊆ S8 by decide
theorem hop6 : (op6 (F := F)).bufs ⊆ S8 := show ({v4', cst0', v5'} : Finset (DevRef τ sig)) ⊆ S8 by decide

/-- The result: the SparseCore part's 512 lanes summed, the TensorCore part added, and the whole scaled. -/
def outVal (x t : S32x512x512.Idx → Elt F .f32) : S_.Idx → Elt F .f32 :=
  mulf (addf (Host.reduceAdd (scRes x t) (constant S_ .f32 0x00000000#32) reducesTo_S32x16_S_d0_1 h_S_) (fun _ => k0_pay3 (accTC x t 11)))
    (constant S_ .f32 0x31CCCCCD#32)

theorem ops_result (V : Valuation τ sig (Elt F)) (x t : S32x512x512.Idx → Elt F .f32) (h0 : V v0' = tcVal x t) (h1 : V v1' = scRes x t) :
    (op6 (F := F)).result ((op5 (F := F)).result ((op4 (F := F)).result ((op3 (F := F)).result ((op2 (F := F)).result ((op1 (F := F)).result V))))) v5'
      = outVal x t := by
  have hr : (StableHlo.after [op1, op2, op3, op4, op5, op6] V) v5' = outVal x t := by
    after_results
    rw [h0, h1]
    rfl
  exact hr

theorem held_S8 (d : Dev nD) (W : Valuation τ sig (Elt F)) :
    (held (T d) S8 W : sProp 𝕄)
      = iprop(((SparseCore.T d).loc main_v0 ↦{fullShare} W v0') ∗ (oLoc d ↦{fullShare} W v1') ∗ ((SparseCore.T d).loc main_cst ↦{fullShare} W cst')
          ∗ ((SparseCore.T d).loc main_v2 ↦{fullShare} W v2') ∗ ((SparseCore.T d).loc main_v3 ↦{fullShare} W v3')
          ∗ ((SparseCore.T d).loc main_v4 ↦{fullShare} W v4') ∗ ((SparseCore.T d).loc main_cst_0 ↦{fullShare} W cst0')
          ∗ (SparseCore.T d).loc main_v5 ↦{fullShare} W v5') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1)
          ∗ ((SparseCore.T d).loc main_v0 ↦{fullShare} W main_v0) ∗ (oLoc d ↦{fullShare} W main_v1) ∗ ((SparseCore.T d).loc main_cst ↦{fullShare} W main_cst)
          ∗ ((SparseCore.T d).loc main_v2 ↦{fullShare} W main_v2) ∗ ((SparseCore.T d).loc main_v3 ↦{fullShare} W main_v3)
          ∗ ((SparseCore.T d).loc main_v4 ↦{fullShare} W main_v4) ∗ ((SparseCore.T d).loc main_cst_0 ↦{fullShare} W main_cst_0)
          ∗ (SparseCore.T d).loc main_v5 ↦{fullShare} W main_v5) := by
  unfold unscopedBufs
  rw [show (Finset.univ.filter fun b : Ref sig .tc => ¬ b.isScoped)
      = {main_arg0, main_arg1, main_v0, main_v1, main_cst, main_v2, main_v3, main_v4, main_cst_0, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The launch's contents with the two kernels' results in place. -/
def VZ (d : Dev nD) : Valuation τ sig (Elt F) :=
  Function.update (Function.update (fun b => m (d, b)) v0' (tcVal (m (xLoc d)) (m (tLoc d)))) v1' (scRes (m (xLoc d)) (m (tLoc d)))

theorem VZ_v1 (d : Dev nD) : VZ m d v1' = scRes (m (xLoc d)) (m (tLoc d)) := Function.update_self _ _ _
theorem VZ_v0 (d : Dev nD) : VZ m d v0' = tcVal (m (xLoc d)) (m (tLoc d)) :=
  (Function.update_of_ne (show v0' ≠ v1' by decide) _ _).trans (Function.update_self _ _ _)
theorem VZ_other (d : Dev nD) (b : DevRef τ sig) (h0 : b ≠ v0') (h1 : b ≠ v1') : VZ m d b = m (d, b) :=
  (Function.update_of_ne h1 _ _).trans (Function.update_of_ne h0 _ _)

/-! ## Dealing the arrays to the tiles -/

/-- The 32 tiles are the 2 cores' 16 each. -/
def widE : Fin 2 × Fin 16 ≃ Fin 32 where
  toFun p := widOf p.1 p.2
  invFun w := (⟨w.val % 2, Nat.mod_lt _ (by decide)⟩, ⟨w.val / 2, by have := w.isLt; omega⟩)
  left_inv p := by
    obtain ⟨⟨c, hc⟩, ⟨i, hi⟩⟩ := p
    unfold widOf
    ext
    · show (2 * i + c) % 2 = c; omega
    · show (2 * i + c) / 2 = i; omega
  right_inv w := by
    apply Fin.ext
    show 2 * (w.val / 2) + w.val % 2 = w.val
    omega

theorem bigSep_tiles (Φ : Fin 32 → sProp 𝕄) :
    bigSep Finset.univ Φ = bigSep Finset.univ fun c : Fin ((K (F := F)).nCore 0) => bigSep Finset.univ fun i : Fin 16 => Φ (widOf (Fin.cast nCore_zero c) i) := by
  have h1 : bigSep Finset.univ Φ = bigSep Finset.univ fun c : Fin 2 => bigSep Finset.univ fun i : Fin 16 => Φ (widOf c i) := by
    rw [← bigSep_univ_prod (fun p : Fin 2 × Fin 16 => Φ (widOf p.1 p.2))]
    exact bigSep_univ_equiv widE Φ
  rw [h1]
  rfl

theorem rows_disjoint : ∀ w ∈ (Finset.univ : Finset (Fin 32)), ∀ w' ∈ (Finset.univ : Finset (Fin 32)), w ≠ w' → Disjoint (rowSet w) (rowSet w') := by
  intro w _ w' _ h
  rw [Finset.disjoint_left]
  intro i hi hi'
  rw [Rect.mem_set_unit] at hi hi'
  have a := hi 0
  have b := hi' 0
  apply h
  apply Fin.ext
  have a1 : w.val * 1 ≤ (i 0).val ∧ (i 0).val < w.val * 1 + 1 := a
  have b1 : w'.val * 1 ≤ (i 0).val ∧ (i 0).val < w'.val * 1 + 1 := b
  omega

theorem rows_cover : (Finset.univ : Finset (Fin 32)).biUnion rowSet = (Finset.univ : Finset S32x16.Idx) := by
  ext i
  simp only [Finset.mem_biUnion, Finset.mem_univ, true_and, iff_true]
  refine ⟨⟨(i 0).val, (i 0).isLt⟩, ?_⟩
  rw [Rect.mem_set_unit]
  have h1 : (i 1 : Nat) < 16 := (i 1).isLt
  intro a
  match a with
  | ⟨0, _⟩ => show (i 0).val * 1 ≤ (i 0).val ∧ (i 0).val < (i 0).val * 1 + 1; omega
  | ⟨1, _⟩ => show 0 * 16 ≤ (i 1).val ∧ (i 1).val < 0 * 16 + 16; omega

theorem oPts_rows (d : Dev nD) (f : Buf (Elt F) (oLoc d)) :
    (oLoc d ↦{fullShare} f : sProp 𝕄) = bigSep Finset.univ fun w : Fin 32 => (oLoc d ↦[rowSet w]{fullShare} f : sProp 𝕄) := by
  have h : (oLoc d ↦[(Finset.univ : Finset (Fin 32)).biUnion rowSet]{fullShare} f : sProp 𝕄) = _ :=
    pointsTo_biUnion (q := fullShare) (ℓ := oLoc d) (f := f) (Finset.univ : Finset (Fin 32)) rowSet rows_disjoint
  refine Eq.trans ?_ h
  exact congrArg (fun S : Finset S32x16.Idx => (oLoc d ↦[S]{fullShare} f : sProp 𝕄)) rows_cover.symm

end Cert.Proof.KI

end
-- ==== Proof.Run.lean ====
/-
  The whole launch: @main's TensorCore call, the SparseCore call, the host operations — run from any launch memory.
-/
module

public import proofs.«01_k».proof.Proof.Deal

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev pinned := Pipeline.pin (pcfgs (F := F)) adm0

theorem hinj : Function.Injective (Pipeline.cellOf (nD := nD) (τ := τ) (pinned (F := F))) := cellOf_inj

/-- The launch's own ghost state: the calls' handshakes and the pipeline's cells. -/
def u₀ : UU := (initOf (K (F := F)).hsCells (K (F := F)).hsToks, (initOf (Pipeline.cells (pinned (F := F)) hinj) (Pipeline.launchToks (pinned (F := F)) hinj), (1 : Counters)))

/-- What device `d`'s TensorCore has of it: its pipeline's cells. -/
def G (d : Dev nD) : sProp 𝕄 :=
  iprop((bigSep Finset.univ fun p : Fin 1 => Pipeline.cellsGhost (pinned (F := F)) EP p d) ∗ (bigSep Finset.univ fun p : Fin 1 => Pipeline.toksInit (pinned (F := F)) EP p d))

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  rw [bigSep_sep']
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iintro Hu
  ihave H := (ownU_pair (initOf (K (F := F)).hsCells (K (F := F)).hsToks)
    (initOf (Pipeline.cells (pinned (F := F)) hinj) (Pipeline.launchToks (pinned (F := F)) hinj), (1 : Counters))) $$ Hu
  icases H with ⟨HH, HR⟩
  ihave H := (own_pair_emb (embR : Emb (UP × Counters) 𝕄) (initOf (Pipeline.cells (pinned (F := F)) hinj) (Pipeline.launchToks (pinned (F := F)) hinj)) (1 : Counters)) $$ HR
  icases H with ⟨HP, -⟩
  imod (Pipeline.fund_ghost (pinned (F := F)) EP hinj) $$ HP with ⟨Hc, Ht⟩
  imodintro
  isplitl [HH]; · iexact HH
  isplitl [Hc Ht]
  · isplitl [Hc] <;> iassumption
  iempintro

/-- The shares of `x` and `t` the TensorCore keeps while the tiles read theirs. -/
abbrev qKeep := Transfers.shareDrop fullShare 32

/-- What @main ends with: its share of each argument, and the result. -/
abbrev FIN (d : Dev nD) : sProp 𝕄 :=
  iprop((xLoc d ↦{qKeep} m (xLoc d)) ∗ (tLoc d ↦{qKeep} m (tLoc d)) ∗ (SparseCore.T d).loc main_v5 ↦{fullShare} outVal (m (xLoc d)) (m (tLoc d)))

theorem goPts_intro (d : Dev nD) (f : Buf (Elt F) (oLoc d)) (w : Fin 32) :
    (iprop((xLoc d ↦{qTile w} m (xLoc d)) ∗ (tLoc d ↦{qTile w} m (tLoc d)) ∗ (oLoc d ↦[rowSet w]{fullShare} f)) : sProp 𝕄) ⊢ goPts m d w := by
  unfold goPts
  iintro ⟨Hx, Ht, Ho⟩
  isplitl [Hx]; · iexact Hx
  isplitl [Ht]; · iexact Ht
  iexists f; iexact Ho

theorem st0_intro (d : Dev nD) (f : Buf (Elt F) (oLoc d)) :
    iprop((bigSep Finset.univ fun w : Fin 32 => (xLoc d ↦{qTile w} m (xLoc d) : sProp 𝕄)) ∗ (bigSep Finset.univ fun w : Fin 32 => (tLoc d ↦{qTile w} m (tLoc d) : sProp 𝕄))
        ∗ (oLoc d ↦{fullShare} f))
      ⊢ (bigSep Finset.univ fun c : Fin ((K (F := F)).nCore 0) => (P m).st 0 d c : sProp 𝕄) := by
  have h : (bigSep Finset.univ fun c : Fin ((K (F := F)).nCore 0) => (P m).st 0 d c : sProp 𝕄) = bigSep Finset.univ fun w : Fin 32 => goPts m d w :=
    (bigSep_tiles (F := F) (fun w => goPts m d w)).symm
  rw [h, oPts_rows, ← bigSep_sep', ← bigSep_sep']
  exact BI.bigSep_mono fun w _ => goPts_intro m d f w

theorem dn0_elim (d : Dev nD) :
    (bigSep Finset.univ fun c : Fin ((K (F := F)).nCore 0) => (P m).dn 0 d c : sProp 𝕄) = (oLoc d ↦{fullShare} scRes (m (xLoc d)) (m (tLoc d)) : sProp 𝕄) :=
  ((bigSep_tiles (F := F) (fun w => tdPts m d w)).symm).trans (oPts_rows d (scRes (m (xLoc d)) (m (tLoc d)))).symm

theorem tcSt_split (d : Dev nD) : ∃ R : sProp 𝕄, (K (F := F)).tcSt EH d 0 = iprop(owesTC d ∗ R) := by
  unfold SparseCore.Cfg.tcSt owesTC
  exact ⟨_, rfl⟩

/-- @main's first call: the TensorCore region, entered and left. -/
theorem region_run [∀ e, Nonempty (Elt F e)] (κ : GSem nD τ sig → ℕ) (d : Dev nD) (Q : sProp 𝕄) :
    iprop((iprop(boundary (SparseCore.T d : Thread nD τ) ∗ unscopedBufs d (V₁ m d) ∗ owesTC (F := F) d) -∗ Q)
        ∗ boundary (SparseCore.T d : Thread nD τ) ∗ (unscopedBufs d (V₀ m d) ∗ owesTC (F := F) d) ∗ (K (F := F)).ctx EH (P m) κ (K (F := F)).lev ∗ G (F := F) d)
      ⊢ wp frame (wpE ((K (F := F)).defs (D (F := F))) 𝒱 (SparseCore.T d) none) Set.univ
          (Prog.lift (.customCall (SparseCore.inner (Pipeline.entry 0)) ())) fun _ => Q := by
  have hwp := Pipeline.RegionSeg.wp (pcfgs (F := F)) adm0 (pdats m) (none : HIx 1) cellOf_inj EP (defs₀ (F := F)) 𝒱₀ (K (F := F)).L (K (F := F)).lev
    (reg m) d none (fun _ h => nomatch h) (α := PUnit) (fun _ => .ret PUnit.unit) (fun _ => Q)
  have hl := (K (F := F)).wp_liftProg (D (F := F)) 𝒱 (SparseCore.T d) Set.univ none (α := PUnit) (.op (.customCall (Pipeline.entry 0) ()) (fun _ => .ret PUnit.unit)) (fun _ => Q)
  refine BIBase.Entails.trans ?_ hl
  refine BIBase.Entails.trans ?_ hwp
  unfold G
  rw [show (reg m).pre d = iprop(unscopedBufs d (V₀ m d) ∗ owesTC (F := F) d) from rfl, show (reg m).post d = iprop(unscopedBufs d (V₁ m d) ∗ owesTC (F := F) d) from rfl]
  rw [bigSep_univ_of_subsingleton (0 : Fin 1), bigSep_univ_of_subsingleton (0 : Fin 1)]
  iintro ⟨HQ, Hb, Hpre, #Hctx, Hg, Ht⟩
  isplitl [HQ]
  · iintro H
    rw [wp_ret]
    imodintro
    iapply HQ
    iexact H
  isplitl [Hb]; · iexact Hb
  isplitl [Hpre]; · iexact Hpre
  isplitr
  · iapply ((K (F := F)).ctx_levAts κ); iexact Hctx
  isplitl [Hg] <;> iassumption

theorem unscoped_V₁ (d : Dev nD) :
    (unscopedBufs d (V₁ m d) : sProp 𝕄)
      = iprop((xLoc d ↦{fullShare} m (xLoc d)) ∗ (tLoc d ↦{fullShare} m (tLoc d))
          ∗ ((SparseCore.T d).loc main_v0 ↦{fullShare} tcVal (m (xLoc d)) (m (tLoc d))) ∗ (oLoc d ↦{fullShare} m (oLoc d)) ∗ ((SparseCore.T d).loc main_cst ↦{fullShare} m (d, cst'))
          ∗ ((SparseCore.T d).loc main_v2 ↦{fullShare} m (d, v2')) ∗ ((SparseCore.T d).loc main_v3 ↦{fullShare} m (d, v3'))
          ∗ ((SparseCore.T d).loc main_v4 ↦{fullShare} m (d, v4')) ∗ ((SparseCore.T d).loc main_cst_0 ↦{fullShare} m (d, cst0'))
          ∗ (SparseCore.T d).loc main_v5 ↦{fullShare} m (d, v5')) := by
  rw [unscopedBufs_eq, V₁_out, V₁_ne m d main_arg0 (by decide), V₁_ne m d main_arg1 (by decide), V₁_ne m d main_v1 (by decide), V₁_ne m d main_cst (by decide),
    V₁_ne m d main_v2 (by decide), V₁_ne m d main_v3 (by decide), V₁_ne m d main_v4 (by decide), V₁_ne m d main_cst_0 (by decide), V₁_ne m d main_v5 (by decide)]

/-- The eight arrays after the host operations, the result among them. -/
theorem held_end (d : Dev nD) :
    (held (T d) S8 ((op6 (F := F)).result ((op5 (F := F)).result ((op4 (F := F)).result ((op3 (F := F)).result ((op2 (F := F)).result ((op1 (F := F)).result (VZ m d))))))) : sProp 𝕄)
      ⊢ (SparseCore.T d).loc main_v5 ↦{fullShare} outVal (m (xLoc d)) (m (tLoc d)) := by
  rw [held_S8, ops_result (VZ m d) _ _ (VZ_v0 m d) (VZ_v1 m d)]
  iintro ⟨-, -, -, -, -, -, -, H⟩
  iexact H

/-- @main on device `d`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_split (F := F) d
  unfold SparseCore.Cfg.tcRes SparseCore.Cfg.tcEnd
  simp only [main, wp_bind, wp_pure]
  rw [hR]
  iintro ⟨#Hctx, ⟨HO, HR⟩, ⟨Hb, Hub, Hts, -⟩, HG⟩
  iapply (region_run m κ d) $$ [-]
  isplitr [Hb Hub HO HG]
  · iintro ⟨Hb, Hub, HO⟩
    ihave Hub := (Entails.of_eq (unscoped_V₁ m d)) $$ Hub
    icases Hub with ⟨Hx, Ht, H0, H1, Hc, H2, H3, H4, Hc0, H5⟩
    ihave Hx := (Transfers.pointsTo_toks_split fullShare 32) $$ Hx
    icases Hx with ⟨Hxk, Hx⟩
    ihave Ht := (Transfers.pointsTo_toks_split fullShare 32) $$ Ht
    icases Ht with ⟨Htk, Ht⟩
    iapply ((K (F := F)).wp_run (D (F := F)) 𝒱 (EH := EH) (P := P m) κ d 0) $$ [-]
    isplitr; · iexact Hctx
    isplitl [HO HR]; · iapply (Entails.of_eq hR.symm); isplitl [HO] <;> iassumption
    isplitl [Hx Ht H1]
    · iapply (st0_intro m d (m (oLoc d))) $$ [-]
      isplitl [Hx]; · iexact Hx
      isplitl [Ht]; · iexact Ht
      iexact H1
    iintro ⟨Hst, Hdn⟩
    ihave H1 := (Entails.of_eq (dn0_elim m d)) $$ Hdn
    ihave Hheld := (Entails.of_eq (held_S8 d (VZ m d)).symm) $$ [H0 H1 Hc H2 H3 H4 Hc0 H5]
    · rw [VZ_v0, VZ_v1, VZ_other m d cst' (by decide) (by decide), VZ_other m d v2' (by decide) (by decide), VZ_other m d v3' (by decide) (by decide),
        VZ_other m d v4' (by decide) (by decide), VZ_other m d cst0' (by decide) (by decide), VZ_other m d v5' (by decide) (by decide)]
      isplitl [H0]; · iexact H0
      isplitl [H1]; · iexact H1
      isplitl [Hc]; · iexact Hc
      isplitl [H2]; · iexact H2
      isplitl [H3]; · iexact H3
      isplitl [H4]; · iexact H4
      isplitl [Hc0]; · iexact Hc0
      iexact H5
    iapply (wp_hlo_within 𝒱 (SparseCore.T d) none Set.univ (op := op1) (S := S8) hop1 (V := VZ m d)) $$ [Hb Hheld]
    · isplitl [Hb] <;> iassumption
    iintro ⟨Hb, Hheld⟩
    rw [wp_ret]; imodintro
    iapply (wp_hlo_within 𝒱 (SparseCore.T d) none Set.univ (op := op2) (S := S8) hop2 (V := (op1 (F := F)).result (VZ m d))) $$ [Hb Hheld]
    · isplitl [Hb] <;> iassumption
    iintro ⟨Hb, Hheld⟩
    rw [wp_ret]; imodintro
    iapply (wp_hlo_within 𝒱 (SparseCore.T d) none Set.univ (op := op3) (S := S8) hop3 (V := (op2 (F := F)).result ((op1 (F := F)).result (VZ m d)))) $$ [Hb Hheld]
    · isplitl [Hb] <;> iassumption
    iintro ⟨Hb, Hheld⟩
    rw [wp_ret]; imodintro
    iapply (wp_hlo_within 𝒱 (SparseCore.T d) none Set.univ (op := op4) (S := S8) hop4 (V := (op3 (F := F)).result ((op2 (F := F)).result ((op1 (F := F)).result (VZ m d))))) $$ [Hb Hheld]
    · isplitl [Hb] <;> iassumption
    iintro ⟨Hb, Hheld⟩
    rw [wp_ret]; imodintro
    iapply (wp_hlo_within 𝒱 (SparseCore.T d) none Set.univ (op := op5) (S := S8) hop5 (V := (op4 (F := F)).result ((op3 (F := F)).result ((op2 (F := F)).result ((op1 (F := F)).result (VZ m d)))))) $$ [Hb Hheld]
    · isplitl [Hb] <;> iassumption
    iintro ⟨Hb, Hheld⟩
    rw [wp_ret]; imodintro
    iapply (wp_hlo_within 𝒱 (SparseCore.T d) none Set.univ (op := op6) (S := S8) hop6 (V := (op5 (F := F)).result ((op4 (F := F)).result ((op3 (F := F)).result ((op2 (F := F)).result ((op1 (F := F)).result (VZ m d))))))) $$ [Hb Hheld]
    · isplitl [Hb] <;> iassumption
    iintro ⟨Hb, Hheld⟩
    rw [wp_ret]; imodintro
    ihave H5 := (held_end m d) $$ Hheld
    imodintro
    isplitl [Hst]; · iexact Hst
    isplitl [Hxk Htk H5]
    · isplitl [Hxk]; · iexact Hxk
      isplitl [Htk]; · iexact Htk
      iexact H5
    isplitl [Hb] <;> iassumption
  isplitl [Hb]; · iexact Hb
  isplitl [Hub HO]
  · isplitl [Hub]; · iexact Hub
    iexact HO
  isplitr; · iexact Hctx
  iexact HG

def fq (d : Dev nD) (s' : Phys nD τ sig (Elt F)) : Prop :=
  s'.mem.mem (xLoc d) = m (xLoc d) ∧ s'.mem.mem (tLoc d) = m (tLoc d) ∧ s'.mem.mem ((SparseCore.T d).loc main_v5) = outVal (m (xLoc d)) (m (tLoc d))

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := qKeep) (f := m (xLoc d)))) $$ [HSI Hx]
  · isplitl [HSI] <;> iassumption
  icases H with ⟨%h1, HSI, -⟩
  ihave H := (persistent_entails_right (SI_pointsTo_agree (st := s') (ℓ := tLoc d) (I := Finset.univ) (q := qKeep) (f := m (tLoc d)))) $$ [HSI Ht]
  · isplitl [HSI] <;> iassumption
  icases H with ⟨%h2, HSI, -⟩
  ihave H := (SI_pointsTo_agree (st := s') (ℓ := (SparseCore.T d).loc main_v5) (I := Finset.univ) (q := fullShare) (f := outVal (m (xLoc d)) (m (tLoc d)))) $$ [HSI Ho]
  · isplitl [HSI] <;> iassumption
  icases H with %h3
  ipureintro
  have e1 : s'.mem.mem (xLoc d) = m (xLoc d) := funext fun (i : Idx (xLoc d)) => h1 i (Finset.mem_univ i)
  have e2 : s'.mem.mem (tLoc d) = m (tLoc d) := funext fun (i : Idx (tLoc d)) => h2 i (Finset.mem_univ i)
  have e3 : s'.mem.mem ((SparseCore.T d).loc main_v5) = outVal (m (xLoc d)) (m (tLoc d)) := funext fun i => h3 i (Finset.mem_univ i)
  exact ⟨e1, e2, e3⟩

def QC : PUnit × MemSt nD τ sig (Elt F) → Prop := fun r =>
  (∀ c : Dev nD, r.2.mem (xLoc c) = m (xLoc c) ∧ r.2.mem (tLoc c) = m (tLoc c) ∧ r.2.mem ((SparseCore.T c).loc main_v5) = outVal (m (xLoc c)) (m (tLoc c)))
    ∧ r.2.sem = fun _ => 0

/-- Every run of the program, over any float values: the arguments kept, the result `outVal` of them, every semaphore zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KI

end
-- ==== Proof.FrameK.lean ====
/-
  The kernel's frame: it ends with its arguments unchanged and every semaphore zero.
-/
module

public import proofs.«01_k».proof.Defs
public import proofs.«01_k».proof.Proof.Run
public import proofs.«01_k».proof.Proof.Gen.Kernel
public import proofs.«01_k».proof.Proof.Gen.KernelIdeal
public import Idealize.ShloMosaic.Adequacy
public import Idealize.ShloMosaic.Init

@[expose] public section

noncomputable section

namespace Cert.Proof

open Idealize.ShloMosaic Idealize.SL.Sem

/-- The kernels' body tables of the two programs, which have one text, are one. -/
theorem defs₀_eq : @Cert.Kernel.defs₀ Bits _ Cert.Kernel.Gen.facts = @Cert.KernelIdeal.defs₀ Bits _ Cert.KernelIdeal.Gen.facts := by
  funext p ℓ a
  cases p
  · match ℓ, a with
    | 0, (_, _) => rfl
    | 1, _ => rfl
  · match ℓ, a with
    | 0, _ => rfl
    | 1, _ => rfl
  · match ℓ, a with
    | 0, _ => rfl
    | 1, _ => rfl

set_option maxHeartbeats 1000000 in
/-- The whole tables too. -/
theorem defs_eq : @Cert.Kernel.defs Bits _ Cert.Kernel.Gen.facts = @Cert.KernelIdeal.defs Bits _ Cert.KernelIdeal.Gen.facts :=
  congrArg (fun D => (Cert.KernelIdeal.sc (F := Bits)).defs (Pipeline.defs Cert.KernelIdeal.pcfgs D)) defs₀_eq

section
open Cert.KernelIdeal
local instance : Cert.KernelIdeal.Facts := Cert.KernelIdeal.Gen.facts

set_option maxHeartbeats 4000000 in
/-- The frame of the run at the words. -/
theorem frame_words (m : (ℓ : Loc nD τ sig) → Buf (Elt Bits) ℓ) (g : Dev nD → PrngReg) :
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (Cert.KernelIdeal.defs (F := Bits)) _ _).mono (fun _ h => ⟨fun c => ⟨(h.1 c).1, (h.1 c).2.1⟩, h.2⟩) (KI.run_main (F := Bits) m g)
end

set_option maxHeartbeats 4000000 in
/-- The two kernel programs have one text, so the run of the one over any float values is the other's at the words. -/
theorem frame_kernel : Cert.quiescent_Kernel (hKernel := Cert.Kernel.Gen.facts) := by
  intro m g _
  rw [defs_eq]
  exact frame_words m g

end Cert.Proof

end
-- ==== Proof.Frames.lean ====
/-
  The frames: each program ends with its arguments unchanged and every semaphore zero.
-/
module

public import proofs.«01_k».proof.Defs
public import proofs.«01_k».proof.Proof.Run
public import proofs.«01_k».proof.Proof.Gen.ReferenceIdeal.Run
public import proofs.«01_k».proof.Proof.Gen.Pre_binary_labels
public import Idealize.ShloMosaic.Adequacy
public import Idealize.ShloMosaic.Init

@[expose] public section

noncomputable section

namespace Cert.Proof

open Idealize.ShloMosaic Idealize.SL.Sem

theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1⟩, h.2⟩) (KI.run_main (F := Ideal) m ρ)

theorem frame_ideal_pre : Cert.quiescent_KernelIdeal_pre_binary_labels (hKernelIdeal := Cert.KernelIdeal.Gen.facts)
    (hPre_binary_labels := Cert.Pre_binary_labels.Gen.facts) := fun m ρ _ => frame_ideal m ρ trivial

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_pre : Cert.quiescent_ReferenceIdeal_pre_binary_labels (hReferenceIdeal := Cert.ReferenceIdeal.Gen.facts)
    (hPre_binary_labels := Cert.Pre_binary_labels.Gen.facts) := fun m ρ _ => frame_reference m ρ trivial

end Cert.Proof

end
-- ==== Proof.Elts.lean ====
/-
  The payloads over the extended reals, read lane by lane: each is its accumulator plus a sum of element losses.
-/
module

public import proofs.«01_k».proof.Proof.Gen.KernelIdeal.Skeleton
public import Idealize.ShloMosaic.Lib.Pointwise
public import Idealize.ShloMosaic.Lib.IdealHost

@[expose] public section

noncomputable section

namespace Cert.Proof.KI

open Cert.KernelIdeal Cert.KernelIdeal.Gen
open Idealize.ShloMosaic
open scoped BigOperators

/-- One element's loss as the TensorCore part computes it. -/
def tcElt (a b : Ideal .f32) : Ideal .f32 :=
  Scalar.select (FloatOps.cmpf .oge b (Ideal.ofBits .f32 0x3F000000#32))
    (Ideal.ofBits .f32 0x41980000#32 * (max a 0 + Ideal.log1p (Ideal.exp (0 - max a (-a))) - a))
    (max a 0 + Ideal.log1p (Ideal.exp (0 - max a (-a))))

/-- The cubic that stands for `log (1 + u)`. -/
def cubicE (u : EReal) : EReal :=
  ((Ideal.ofBits .f32 0x3DDA7D86#32 * u + Ideal.ofBits .f32 0xBEC97D86#32) * u + Ideal.ofBits .f32 0x3F7AD11F#32) * u + Ideal.ofBits .f32 0x3A727DDB#32

/-- One element's loss as the SparseCore part computes it. -/
def scElt (a b : Ideal .f32) : Ideal .f32 :=
  Scalar.select (FloatOps.cmpf .oge b (Ideal.ofBits .f32 0x3F000000#32))
    (Ideal.ofBits .f32 0x41980000#32 * (max a 0 + cubicE (Ideal.exp (0 - max a (-a))) - a))
    (max a 0 + cubicE (Ideal.exp (0 - max a (-a))))

theorem absf_ideal (a : Ideal .f32) : FloatOps.absf a = max a (-a) := rfl

/-- Over a rank-3 array's first two axes: the source indices that reduce to `j`. -/
theorem fiber01 {n0 n1 n2 : ℕ} (h : (⟨3, ![n0, n1, n2]⟩ : Shape).Reduces [0, 1] ⟨1, ![n2]⟩) (c : Fin n2) (i : (⟨3, ![n0, n1, n2]⟩ : Shape).Idx) :
    h.drop i = ix1 c ↔ ∃ k : Fin n0 × Fin n1, ix3 k.1 k.2 c = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem reduce01 {n0 n1 n2 : ℕ} (h : (⟨3, ![n0, n1, n2]⟩ : Shape).Reduces [0, 1] ⟨1, ![n2]⟩) (v : (⟨3, ![n0, n1, n2]⟩ : Shape).Idx → EReal) (c : Fin n2) :
    Ideal.reduceAdd h v (ix1 c) = ∑ a : Fin n0, ∑ b : Fin n1, v (ix3 a b c) := by
  refine (Finset.sum_filter_eq_sum_of_fiber _ (fun k : Fin n0 × Fin n1 => ix3 k.1 k.2 c)
    (fun _ _ e => Prod.ext (congrFun e 0) (congrFun e 1)) (fiber01 h c) v).trans ?_
  simp only [Fintype.sum_prod_type]

theorem k0_pay1_apply (j : S1x512.Idx) : k0_pay1 (F := Ideal) j = 0 := by
  pointwise [k0_pay1]

theorem k1_pay6_apply (j : S16.Idx) : k1_pay6 (F := Ideal) j = 0 := by
  pointwise [k1_pay6]

theorem k1_pay2_apply (A : FVec Ideal S16 .f32) (X Y : Vec Ideal S1x16 .f32) (j : Fin 16) :
    k1_pay2 A X Y (ix1 j) = A (ix1 j) + scElt (X (ix2 0 j)) (Y (ix2 0 j)) := by
  pointwise [k1_pay2, absf_ideal, scElt, cubicE]

theorem k1_pay7_apply (A : FVec Ideal S16 .f32) (X Y : Vec Ideal S1x16 .f32) (j : Fin 16) :
    k1_pay7 A (k1_pay3 X) (k1_pay4 Y) (k1_pay5 X) (ix1 j) = A (ix1 j) + scElt (X (ix2 0 j)) (Y (ix2 0 j)) := by
  pointwise [k1_pay7, absf_ideal, k1_pay3, k1_pay4, k1_pay5, scElt, cubicE]

theorem k1_pay1_apply (A B : FVec Ideal S16 .f32) (j : Fin 16) : k1_pay1 (k1_pay8 A B) (ix1 j) = A (ix1 j) + B (ix1 j) := by
  pointwise [k1_pay1, k1_pay8]

theorem k0_pay3_apply (A : Vec Ideal S1x512 .f32) : k0_pay3 A = ∑ c : Fin 512, A (ix2 0 c) := by
  pointwise [k0_pay3]
  rw [Fin.sum_univ_one]

theorem k0_pay2_apply (X Y : Vec Ideal S2x512x512 .f32) (A : Vec Ideal S1x512 .f32) (c : Fin 512) :
    k0_pay2 X Y A (ix2 0 c) = A (ix2 0 c) + ∑ a : Fin 2, ∑ b : Fin 512, tcElt (X (ix3 a b c)) (Y (ix3 a b c)) := by
  pointwise [k0_pay2, tcElt]
  rw [reduce01]
  pointwise [absf_ideal]

end Cert.Proof.KI

end
-- ==== Proof.Scalars.lean ====
/-
  One element's loss over the reals: the kernel's two forms and the reference's two forms of it, at a label zero or one.
-/
module

public import proofs.«01_k».proof.Proof.Elts

@[expose] public section

noncomputable section

namespace Cert.Proof

open Idealize.ShloMosaic
open Cert.Proof.KI

/-! ## The literals -/

theorem lit_half : Ideal.ofBits .f32 0x3F000000#32 = (((1 : ℝ) / 2 : ℝ) : EReal) := by
  simp [Ideal.ofBits, Ideal.ieee, -EReal.coe_mul]; norm_num
theorem lit_19 : Ideal.ofBits .f32 0x41980000#32 = ((19 : ℝ) : EReal) := by
  simp [Ideal.ofBits, Ideal.ieee, -EReal.coe_mul]; norm_num
theorem lit_20 : Ideal.ofBits .f32 0x41A00000#32 = ((20 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_c0 : Ideal.ofBits .f32 0x3A727DDB#32 = (((15891931 : ℝ) / 2 ^ 34 : ℝ) : EReal) := by
  simp [Ideal.ofBits, Ideal.ieee, -EReal.coe_mul]; norm_num
theorem lit_c1 : Ideal.ofBits .f32 0x3F7AD11F#32 = (((16437535 : ℝ) / 2 ^ 24 : ℝ) : EReal) := by
  simp [Ideal.ofBits, Ideal.ieee, -EReal.coe_mul]; norm_num
theorem lit_c2 : Ideal.ofBits .f32 0x3EC97D86#32 = (((13204870 : ℝ) / 2 ^ 25 : ℝ) : EReal) := by
  simp [Ideal.ofBits, Ideal.ieee, -EReal.coe_mul]; norm_num
theorem lit_c2n : Ideal.ofBits .f32 0xBEC97D86#32 = ((-((13204870 : ℝ) / 2 ^ 25) : ℝ) : EReal) := by
  simp [Ideal.ofBits, Ideal.ieee, -EReal.coe_mul, -EReal.coe_neg]; norm_num
theorem lit_c3 : Ideal.ofBits .f32 0x3DDA7D86#32 = (((14318982 : ℝ) / 2 ^ 27 : ℝ) : EReal) := by
  simp [Ideal.ofBits, Ideal.ieee, -EReal.coe_mul]; norm_num
theorem lit_05 : Ideal.ofBits .f32 0x3D4CCCCD#32 = (((13421773 : ℝ) / 2 ^ 28 : ℝ) : EReal) := by
  simp [Ideal.ofBits, Ideal.ieee, -EReal.coe_mul]; norm_num
theorem lit_scale : Ideal.ofBits .f32 0x31CCCCCD#32 = (((13421773 : ℝ) / 2 ^ 51 : ℝ) : EReal) := by
  simp [Ideal.ofBits, Ideal.ieee, -EReal.coe_mul]; norm_num
theorem lit_3e4 : Ideal.ofBits .f32 0x399D4952#32 = (((10307922 : ℝ) / 2 ^ 35 : ℝ) : EReal) := by
  simp [Ideal.ofBits, Ideal.ieee, -EReal.coe_mul]; norm_num
theorem lit_1e6 : Ideal.ofBits .f32 0x358637BD#32 = (((8796093 : ℝ) / 2 ^ 43 : ℝ) : EReal) := by
  simp [Ideal.ofBits, Ideal.ieee, -EReal.coe_mul]; norm_num
theorem lit_top : Ideal.ofBits .f32 0x7F800000#32 = (⊤ : EReal) := by
  simp [Ideal.ofBits, Ideal.ieee, -EReal.coe_mul]

/-! ## The real functions -/

/-- The logarithm term of the loss. -/
def lnTerm (r : ℝ) : ℝ := Real.log (1 + Real.exp (-|r|))

/-- The cubic of the SparseCore part. -/
def cubic (u : ℝ) : ℝ := 15891931 / 2 ^ 34 + 16437535 / 2 ^ 24 * u - 13204870 / 2 ^ 25 * (u * u) + 14318982 / 2 ^ 27 * (u * u * u)

/-- The cubic's term of the loss. -/
def cubTerm (r : ℝ) : ℝ := cubic (Real.exp (-|r|))

/-- The loss of a zero label, and of a one label, from the logarithm's term `q`. -/
def lossZero (r q : ℝ) : ℝ := max r 0 + q
def lossOne (r q : ℝ) : ℝ := 19 * (max r 0 + q - r)

theorem coe_max (a b : ℝ) : ((max a b : ℝ) : EReal) = max (a : EReal) (b : EReal) := EReal.coe_strictMono.monotone.map_max

theorem coe_abs (r : ℝ) : max (r : EReal) (-(r : EReal)) = ((|r| : ℝ) : EReal) := by
  rw [← EReal.coe_neg, ← coe_max]; rfl

theorem exp_abs (r : ℝ) : Ideal.exp (0 - max (r : EReal) (-(r : EReal))) = ((Real.exp (-|r|) : ℝ) : EReal) := by
  rw [coe_abs, zero_sub, ← EReal.coe_neg, Ideal.exp_coe]

theorem log1p_exp (r : ℝ) : Ideal.log1p (((Real.exp (-|r|) : ℝ)) : EReal) = ((lnTerm r : ℝ) : EReal) := by
  have h : ¬ (1 + Real.exp (-|r|) ≤ 0) := by have := Real.exp_pos (-|r|); linarith
  show Ideal.log (1 + ((Real.exp (-|r|) : ℝ) : EReal)) = _
  rw [← EReal.coe_one, ← EReal.coe_add, Ideal.log_coe, if_neg h]; rfl

theorem cubicE_coe (u : ℝ) : cubicE (u : EReal) = ((cubic u : ℝ) : EReal) := by
  unfold cubicE cubic
  rw [lit_c0, lit_c1, lit_c2n, lit_c3]
  simp only [← EReal.coe_mul, ← EReal.coe_add]
  congr 1; ring

theorem oge_zero : FloatOps.cmpf (F := Ideal) .oge (0 : EReal) (Ideal.ofBits .f32 0x3F000000#32) = 0#1 := by
  rw [lit_half]
  have : ¬ ((((1 : ℝ) / 2 : ℝ) : EReal) ≤ 0) := by
    rw [← EReal.coe_zero, EReal.coe_le_coe_iff]; norm_num
  show BitVec.ofBool (decide ((((1 : ℝ) / 2 : ℝ) : EReal) ≤ 0)) = 0#1
  rw [decide_eq_false this]; rfl

theorem oge_one : FloatOps.cmpf (F := Ideal) .oge (1 : EReal) (Ideal.ofBits .f32 0x3F000000#32) = 1#1 := by
  rw [lit_half]
  have : ((((1 : ℝ) / 2 : ℝ) : EReal) ≤ 1) := by
    rw [← EReal.coe_one, EReal.coe_le_coe_iff]; norm_num
  show BitVec.ofBool (decide ((((1 : ℝ) / 2 : ℝ) : EReal) ≤ 1)) = 1#1
  rw [decide_eq_true this]; rfl

theorem tcElt_zero (r : ℝ) : tcElt (r : EReal) (0 : EReal) = ((lossZero r (lnTerm r) : ℝ) : EReal) := by
  unfold tcElt lossZero
  rw [oge_zero, exp_abs, log1p_exp]
  show max (r : EReal) 0 + _ = _
  rw [EReal.coe_add, coe_max, EReal.coe_zero]

theorem tcElt_one (r : ℝ) : tcElt (r : EReal) (1 : EReal) = ((lossOne r (lnTerm r) : ℝ) : EReal) := by
  unfold tcElt lossOne
  rw [oge_one, exp_abs, log1p_exp, lit_19]
  show _ * (max (r : EReal) 0 + _ - _) = _
  rw [EReal.coe_mul, EReal.coe_sub, EReal.coe_add, coe_max, EReal.coe_zero]

theorem scElt_zero (r : ℝ) : scElt (r : EReal) (0 : EReal) = ((lossZero r (cubTerm r) : ℝ) : EReal) := by
  unfold scElt lossZero cubTerm
  rw [oge_zero, exp_abs, cubicE_coe]
  show max (r : EReal) 0 + _ = _
  rw [EReal.coe_add, coe_max, EReal.coe_zero]

theorem scElt_one (r : ℝ) : scElt (r : EReal) (1 : EReal) = ((lossOne r (cubTerm r) : ℝ) : EReal) := by
  unfold scElt lossOne cubTerm
  rw [oge_one, exp_abs, cubicE_coe, lit_19]
  show _ * (max (r : EReal) 0 + _ - _) = _
  rw [EReal.coe_mul, EReal.coe_sub, EReal.coe_add, coe_max, EReal.coe_zero]

/-! ## The reference's forms -/

theorem max_neg (r : ℝ) : max (-r) 0 = max r 0 - r := by
  rcases le_total r 0 with h | h
  · rw [max_eq_left (by linarith), max_eq_right h]; ring
  · rw [max_eq_right (by linarith), max_eq_left h]; ring

/-- The reference's combination of an element, a label and the logarithm's stand-in. -/
def refElt (a b p : EReal) : EReal := (1 - b) * a + (Ideal.ofBits .f32 0x41980000#32 * b + (1 - b)) * p

theorem refElt_zero (r q : ℝ) : refElt (r : EReal) 0 ((max (-r) 0 + q : ℝ) : EReal) = ((lossZero r q : ℝ) : EReal) := by
  unfold refElt lossZero
  rw [lit_19, mul_zero, zero_add, sub_zero, one_mul, one_mul, ← EReal.coe_add, max_neg]
  congr 1; ring

theorem refElt_one (r q : ℝ) : refElt (r : EReal) 1 ((max (-r) 0 + q : ℝ) : EReal) = ((lossOne r q : ℝ) : EReal) := by
  unfold refElt lossOne
  have h : (1 : EReal) - 1 = 0 := by rw [← EReal.coe_one, ← EReal.coe_sub, sub_self, EReal.coe_zero]
  rw [lit_19, h, mul_one, zero_mul, zero_add, add_zero, ← EReal.coe_mul, max_neg]
  congr 1; ring

/-- The reference's softplus of `-r`. -/
def refSoft (a : EReal) : EReal :=
  if -a ≠ -a then -a else max (-a) 0 + Ideal.log1p (Ideal.exp (-FloatOps.absf (F := Ideal) (φ := .f32) (-a)))

theorem refSoft_coe (r : ℝ) : refSoft (r : EReal) = ((max (-r) 0 + lnTerm r : ℝ) : EReal) := by
  unfold refSoft
  rw [if_neg (fun h => h rfl)]
  have e : Ideal.exp (-FloatOps.absf (F := Ideal) (φ := .f32) (-(r : EReal))) = ((Real.exp (-|r|) : ℝ) : EReal) := by
    show Ideal.exp (-(max (-(r : EReal)) (-(-(r : EReal))))) = _
    rw [← EReal.coe_neg, coe_abs, abs_neg, ← EReal.coe_neg, Ideal.exp_coe]
  rw [e, log1p_exp, EReal.coe_add, coe_max, EReal.coe_neg, EReal.coe_zero]

/-- The reference's cubic in `u = exp (-|a|)`, with the maximum. -/
def refCub (a : EReal) : EReal :=
  max (-a) 0 +
    (Ideal.ofBits .f32 0x3A727DDB#32 + Ideal.ofBits .f32 0x3F7AD11F#32 * Ideal.exp (-FloatOps.absf (F := Ideal) (φ := .f32) a) -
        Ideal.ofBits .f32 0x3EC97D86#32 *
          (Ideal.exp (-FloatOps.absf (F := Ideal) (φ := .f32) a) * Ideal.exp (-FloatOps.absf (F := Ideal) (φ := .f32) a)) +
      Ideal.ofBits .f32 0x3DDA7D86#32 *
        (Ideal.exp (-FloatOps.absf (F := Ideal) (φ := .f32) a) * Ideal.exp (-FloatOps.absf (F := Ideal) (φ := .f32) a) *
          Ideal.exp (-FloatOps.absf (F := Ideal) (φ := .f32) a)))

theorem refCub_coe (r : ℝ) : refCub (r : EReal) = ((max (-r) 0 + cubTerm r : ℝ) : EReal) := by
  unfold refCub cubTerm cubic
  have e : Ideal.exp (-FloatOps.absf (F := Ideal) (φ := .f32) (r : EReal)) = ((Real.exp (-|r|) : ℝ) : EReal) := by
    show Ideal.exp (-(max (r : EReal) (-(r : EReal)))) = _
    rw [coe_abs, ← EReal.coe_neg, Ideal.exp_coe]
  rw [e, lit_c0, lit_c1, lit_c2, lit_c3, ← EReal.coe_neg, ← EReal.coe_zero, ← coe_max]
  simp only [← EReal.coe_mul, ← EReal.coe_add, ← EReal.coe_sub]

/-- Where the label is zero or one the mask is one. -/
theorem mask_one {b : EReal} (h : b = 0 ∨ b = 1) :
    FloatOps.uitofp (F := Ideal) .f32 (BitVec.ofBool (decide (b ≠ Ideal.ofBits .f32 0x437F0000#32))) = (1 : EReal) := by
  have hb : b ≠ Ideal.ofBits .f32 0x437F0000#32 := by
    rw [lit_255]
    rcases h with rfl | rfl
    · rw [← EReal.coe_zero]; intro e; have := EReal.coe_injective e; norm_num at this
    · rw [← EReal.coe_one]; intro e; have := EReal.coe_injective e; norm_num at this
  rw [decide_eq_true hb]
  show (((1#1 : BitVec 1).toNat : ℝ) : EReal) = 1
  norm_num

end Cert.Proof

end
-- ==== Proof.Bound.lean ====
/-
  The cubic against the logarithm: on [0, 1] the two differ by at most a thousandth.
-/
module

public import proofs.«01_k».proof.Proof.Scalars
public import Mathlib.Analysis.SpecialFunctions.Log.Basic
public import Mathlib.Analysis.SpecialFunctions.ExpDeriv
public import Mathlib.Analysis.Calculus.Deriv.Inverse
public import Mathlib.Analysis.Calculus.Deriv.MeanValue

@[expose] public section

noncomputable section

namespace Cert.Proof

open Set

/-- The cubic less the logarithm. -/
def gap (u : ℝ) : ℝ := cubic u - Real.log (1 + u)

/-- The cubic's slope. -/
def slope (u : ℝ) : ℝ := 16437535 / 2 ^ 24 - 2 * (13204870 / 2 ^ 25) * u + 3 * (14318982 / 2 ^ 27) * (u * u)

theorem hasDerivAt_cubic (u : ℝ) : HasDerivAt cubic (slope u) u := by
  have hid := hasDerivAt_id' u
  have h2 := hid.mul hid
  have h3 := h2.mul hid
  have := (((hasDerivAt_const u ((15891931 : ℝ) / 2 ^ 34)).add (hid.const_mul ((16437535 : ℝ) / 2 ^ 24))).sub
    (h2.const_mul ((13204870 : ℝ) / 2 ^ 25))).add (h3.const_mul ((14318982 : ℝ) / 2 ^ 27))
  have e := this.congr_deriv (g' := slope u) (by unfold slope; simp only [Pi.mul_apply]; ring)
  exact e

theorem hasDerivAt_ln (v : ℝ) (hv : 0 < v) : HasDerivAt Real.log v⁻¹ v := by
  have h : HasDerivAt Real.exp v (Real.log v) := by
    have := Real.hasDerivAt_exp (Real.log v)
    rwa [Real.exp_log hv] at this
  exact h.of_local_left_inverse (Real.continuousAt_log hv.ne') hv.ne'
    ((eventually_gt_nhds hv).mono fun y hy => Real.exp_log hy)

theorem hasDerivAt_tilt (e u : ℝ) (hu : 0 ≤ u) : HasDerivAt (fun u => gap u + e * u) (slope u - 1 / (1 + u) + e) u := by
  have hl : HasDerivAt (fun u : ℝ => Real.log (1 + u)) (1 / (1 + u)) u := by
    have hi : HasDerivAt (fun u : ℝ => 1 + u) 1 u := (hasDerivAt_id' u).const_add 1
    have := (hasDerivAt_ln (1 + u) (by linarith)).comp u hi
    rw [mul_one, ← one_div] at this
    exact this
  have := ((hasDerivAt_cubic u).sub hl).add ((hasDerivAt_id' u).const_mul e)
  rw [mul_one] at this
  exact this

theorem tilt_continuousOn (e a b : ℝ) (ha : 0 ≤ a) : ContinuousOn (fun u => gap u + e * u) (Icc a b) := fun u hu =>
  (hasDerivAt_tilt e u (ha.trans hu.1)).continuousAt.continuousWithinAt

/-- Where the tilted difference's slope is not negative it grows. -/
theorem gap_mono (a b e : ℝ) (ha : 0 ≤ a) (h : ∀ u, a ≤ u → u ≤ b → 0 ≤ (slope u + e) * (1 + u) - 1) (u : ℝ) (h1 : a ≤ u) (h2 : u ≤ b) :
    gap a - e * (u - a) ≤ gap u ∧ gap u ≤ gap b + e * (b - u) := by
  have hm : MonotoneOn (fun u => gap u + e * u) (Icc a b) := by
    refine monotoneOn_of_deriv_nonneg (convex_Icc a b) (tilt_continuousOn e a b ha) ?_ ?_
    · intro v hv
      rw [interior_Icc] at hv
      exact (hasDerivAt_tilt e v (ha.trans hv.1.le)).differentiableAt.differentiableWithinAt
    · intro v hv
      rw [interior_Icc] at hv
      rw [(hasDerivAt_tilt e v (ha.trans hv.1.le)).deriv]
      have hp : 0 < 1 + v := by linarith [hv.1]
      have := h v hv.1.le hv.2.le
      have e1 : slope v - 1 / (1 + v) + e = ((slope v + e) * (1 + v) - 1) / (1 + v) := by field_simp; ring
      rw [e1]
      exact div_nonneg this hp.le
  have hab := h1.trans h2
  have l := hm (left_mem_Icc.mpr hab) ⟨h1, h2⟩ h1
  have r := hm ⟨h1, h2⟩ (right_mem_Icc.mpr hab) h2
  simp only at l r
  constructor <;> linarith

/-- Where the tilted difference's slope is not positive it falls. -/
theorem gap_anti (a b e : ℝ) (ha : 0 ≤ a) (h : ∀ u, a ≤ u → u ≤ b → (slope u - e) * (1 + u) - 1 ≤ 0) (u : ℝ) (h1 : a ≤ u) (h2 : u ≤ b) :
    gap b - e * (b - u) ≤ gap u ∧ gap u ≤ gap a + e * (u - a) := by
  have hm : AntitoneOn (fun u => gap u + -e * u) (Icc a b) := by
    refine antitoneOn_of_deriv_nonpos (convex_Icc a b) (tilt_continuousOn (-e) a b ha) ?_ ?_
    · intro v hv
      rw [interior_Icc] at hv
      exact (hasDerivAt_tilt (-e) v (ha.trans hv.1.le)).differentiableAt.differentiableWithinAt
    · intro v hv
      rw [interior_Icc] at hv
      rw [(hasDerivAt_tilt (-e) v (ha.trans hv.1.le)).deriv]
      have hp : 0 < 1 + v := by linarith [hv.1]
      have := h v hv.1.le hv.2.le
      have e1 : slope v - 1 / (1 + v) + -e = ((slope v - e) * (1 + v) - 1) / (1 + v) := by field_simp; ring
      rw [e1]
      exact div_nonpos_of_nonpos_of_nonneg this hp.le
  have hab := h1.trans h2
  have l := hm (left_mem_Icc.mpr hab) ⟨h1, h2⟩ h1
  have r := hm ⟨h1, h2⟩ (right_mem_Icc.mpr hab) h2
  simp only at l r
  constructor <;> linarith

/-! ## The logarithm at the partition's points -/

/-- A logarithm lies where the exponential's partial sums put it. -/
theorem log_pt (v d : ℝ) (hv : 0 < v) (hd : 1 / 10000 ≤ d) (hd1 : d ≤ 9 / 10)
    (hlo : (∑ m ∈ Finset.range 8, (d - 1 / 10000) ^ m / (m.factorial : ℝ)) + (d - 1 / 10000) ^ 8 * (8 + 1) / ((Nat.factorial 8 : ℝ) * 8) ≤ v)
    (hhi : v ≤ ∑ m ∈ Finset.range 8, (d + 1 / 10000) ^ m / (m.factorial : ℝ)) : |Real.log v - d| ≤ 1 / 10000 := by
  have h1 : d - 1 / 10000 ≤ Real.log v := (Real.le_log_iff_exp_le hv).mpr (by
    have := Real.exp_bound' (x := d - 1 / 10000) (by linarith) (by linarith) (n := 8) (by norm_num)
    push_cast at this
    exact this.trans hlo)
  have h2 : Real.log v ≤ d + 1 / 10000 := (Real.log_le_iff_le_exp hv).mpr
    (hhi.trans (Real.sum_le_exp_of_nonneg (by linarith) 8))
  rw [abs_le]
  constructor <;> linarith

theorem log_1 : |Real.log (1 + 1 / 6) - 154150 / 1000000| ≤ 1 / 10000 :=
  log_pt _ _ (by norm_num) (by norm_num) (by norm_num) (by norm_num [Finset.sum_range_succ, Nat.factorial]) (by norm_num [Finset.sum_range_succ, Nat.factorial])

theorem log_2 : |Real.log (1 + 1 / 2) - 405465 / 1000000| ≤ 1 / 10000 :=
  log_pt _ _ (by norm_num) (by norm_num) (by norm_num) (by norm_num [Finset.sum_range_succ, Nat.factorial]) (by norm_num [Finset.sum_range_succ, Nat.factorial])

theorem log_3 : |Real.log (1 + 4 / 5) - 587787 / 1000000| ≤ 1 / 10000 :=
  log_pt _ _ (by norm_num) (by norm_num) (by norm_num) (by norm_num [Finset.sum_range_succ, Nat.factorial]) (by norm_num [Finset.sum_range_succ, Nat.factorial])

theorem log_4 : |Real.log (1 + 1) - 693147 / 1000000| ≤ 1 / 10000 :=
  log_pt _ _ (by norm_num) (by norm_num) (by norm_num) (by norm_num [Finset.sum_range_succ, Nat.factorial]) (by norm_num [Finset.sum_range_succ, Nat.factorial])

/-- The difference's values there. -/
theorem gap_0 : 0 ≤ gap 0 ∧ gap 0 ≤ 926 / 1000000 := by
  unfold gap cubic; norm_num

theorem gap_1 : |gap (1 / 6)| ≤ 5 / 10000 := by
  have h := log_1
  rw [abs_le] at h ⊢
  unfold gap cubic
  constructor <;> norm_num at h ⊢ <;> linarith [h.1, h.2]

theorem gap_2 : |gap (1 / 2)| ≤ 5 / 10000 := by
  have h := log_2
  rw [abs_le] at h ⊢
  unfold gap cubic
  constructor <;> norm_num at h ⊢ <;> linarith [h.1, h.2]

theorem gap_3 : |gap (4 / 5)| ≤ 5 / 10000 := by
  have h := log_3
  rw [abs_le] at h ⊢
  unfold gap cubic
  constructor <;> norm_num at h ⊢ <;> linarith [h.1, h.2]

theorem gap_4 : |gap 1| ≤ 8 / 10000 := by
  have h := log_4
  rw [abs_le] at h ⊢
  unfold gap cubic
  constructor <;> norm_num at h ⊢ <;> linarith [h.1, h.2]

/-! ## The four pieces -/

/-- The four products of a cubic's Bernstein form on an interval are not negative. -/
theorem bern (a b u : ℝ) (h1 : a ≤ u) (h2 : u ≤ b) :
    0 ≤ (u - a) * (u - a) * (u - a) ∧ 0 ≤ (u - a) * (u - a) * (b - u) ∧ 0 ≤ (u - a) * (b - u) * (b - u) ∧ 0 ≤ (b - u) * (b - u) * (b - u) := by
  have p : 0 ≤ u - a := by linarith
  have q : 0 ≤ b - u := by linarith
  refine ⟨by positivity, by positivity, by positivity, by positivity⟩

theorem gap_bound (u : ℝ) (h0 : 0 ≤ u) (h1 : u ≤ 1) : |gap u| ≤ 1 / 1000 := by
  have g0 := gap_0
  have g1 := abs_le.mp gap_1
  have g2 := abs_le.mp gap_2
  have g3 := abs_le.mp gap_3
  have g4 := abs_le.mp gap_4
  rw [abs_le]
  rcases le_total u (1 / 6) with a | a
  · have := gap_anti 0 (1 / 6) (4 / 10000) (by norm_num) (fun v p q => by
      obtain ⟨b1, b2, b3, b4⟩ := bern 0 (1 / 6) v p q
      unfold slope; norm_num at b1 b2 b3 b4 ⊢; linarith) u h0 a
    constructor <;> linarith [this.1, this.2]
  rcases le_total u (1 / 2) with b | b
  · have := gap_mono (1 / 6) (1 / 2) (1 / 1000) (by norm_num) (fun v p q => by
      obtain ⟨b1, b2, b3, b4⟩ := bern (1 / 6) (1 / 2) v p q
      unfold slope; norm_num at b1 b2 b3 b4 ⊢; linarith) u a b
    constructor <;> linarith [this.1, this.2]
  rcases le_total u (4 / 5) with c | c
  · have := gap_anti (1 / 2) (4 / 5) 0 (by norm_num) (fun v p q => by
      obtain ⟨b1, b2, b3, b4⟩ := bern (1 / 2) (4 / 5) v p q
      unfold slope; norm_num at b1 b2 b3 b4 ⊢; linarith) u b c
    constructor <;> linarith [this.1, this.2]
  · have := gap_mono (4 / 5) 1 (1 / 1000) (by norm_num) (fun v p q => by
      obtain ⟨b1, b2, b3, b4⟩ := bern (4 / 5) 1 v p q
      unfold slope; norm_num at b1 b2 b3 b4 ⊢; linarith) u c h1
    constructor <;> linarith [this.1, this.2]

/-- The two logarithm terms of the loss differ by at most a thousandth. -/
theorem term_bound (r : ℝ) : |cubTerm r - lnTerm r| ≤ 1 / 1000 :=
  gap_bound _ (Real.exp_pos _).le (Real.exp_le_one_iff.mpr (by linarith [abs_nonneg r]))

end Cert.Proof

end
-- ==== Proof.Total.lean ====
/-
  The kernel's result over the extended reals: the sum of every element's loss, times the scale.
-/
module

public import proofs.«01_k».proof.Proof.Elts
public import proofs.«01_k».proof.Proof.Deal

@[expose] public section

noncomputable section

namespace Cert.Proof.KI

open Cert.KernelIdeal Cert.KernelIdeal.Gen
open Idealize.ShloMosaic
open scoped BigOperators

variable (x t : S32x512x512.Idx → Elt Ideal .f32)

/-- The losses of element `(a, b, c)`, by the one part's text and by the other's. -/
def gT (a b c : ℕ) : EReal := tcElt (at3 (F := Ideal) x a b c) (at3 (F := Ideal) t a b c)
def gS (a b c : ℕ) : EReal := scElt (at3 (F := Ideal) x a b c) (at3 (F := Ideal) t a b c)

/-- A range of `m n` terms in `m` runs of `n`. -/
theorem sum_runs {M : Type*} [AddCommMonoid M] (f : ℕ → M) (m n : ℕ) :
    ∑ i ∈ Finset.range (m * n), f i = ∑ a ∈ Finset.range m, ∑ b ∈ Finset.range n, f (a * n + b) := by
  induction m with
  | zero => simp
  | succ m ih => rw [Nat.succ_mul, Finset.sum_range_add, ih, Finset.sum_range_succ]

/-! ## The TensorCore part -/

theorem accTC_apply (n : ℕ) (c : Fin 512) :
    accTC (F := Ideal) x t n (ix2 0 c) = ∑ k ∈ Finset.range n, ∑ a ∈ Finset.range 2, ∑ b ∈ Finset.range 512, gT x t (k * 2 + a) b c.val := by
  induction n with
  | zero => exact k0_pay1_apply _
  | succ n ih =>
    rw [Finset.sum_range_succ, ← ih]
    refine (k0_pay2_apply _ _ _ c).trans ?_
    congr 1
    rw [Finset.sum_range (n := 2)]
    refine Finset.sum_congr rfl fun a _ => ?_
    rw [Finset.sum_range (n := 512)]
    refine Finset.sum_congr rfl fun b _ => ?_
    show tcElt (at3 (F := Ideal) x (2 * n + a.val) b.val c.val) (at3 (F := Ideal) t (2 * n + a.val) b.val c.val) = _
    rw [Nat.mul_comm 2 n]
    rfl

theorem tc_total : k0_pay3 (accTC (F := Ideal) x t 11)
    = ∑ a ∈ Finset.range 22, ∑ b ∈ Finset.range 512, ∑ c ∈ Finset.range 512, gT x t a b c := by
  rw [k0_pay3_apply, show (22 : ℕ) = 11 * 2 from rfl, sum_runs]
  simp only [accTC_apply]
  rw [← Finset.sum_range (n := 512) (f := fun c => ∑ k ∈ Finset.range 11, ∑ a ∈ Finset.range 2, ∑ b ∈ Finset.range 512, gT x t (k * 2 + a) b c)]
  rw [Finset.sum_comm]
  refine Finset.sum_congr rfl fun k _ => ?_
  rw [Finset.sum_comm]
  refine Finset.sum_congr rfl fun a _ => ?_
  rw [Finset.sum_comm]

/-! ## The SparseCore part -/

/-- The element at lane `l` of row `r` of chunk `q`, the chunks counted from the first of image 22. -/
def gQ (q r l : ℕ) : EReal := gS x t ((352 + q) / 16) ((352 + q) % 16 * 32 + r) l

/-- The two accumulators' sum at a lane. -/
def pairAt (a : FVec Ideal S16 .f32 × FVec Ideal S16 .f32) (j : Fin 16) : EReal := a.1 (ix1 j) + a.2 (ix1 j)

theorem step_apply (w k r c : ℕ) (a : FVec Ideal S16 .f32 × FVec Ideal S16 .f32) (j : Fin 16) :
    pairAt (stepAcc (F := Ideal) x t w k r c a) j
      = pairAt a j + ∑ h ∈ Finset.range 2, gQ x t (5 * w + k) r (c * 32 + (h * 16 + j.val)) := by
  unfold pairAt stepAcc
  dsimp only
  rw [k1_pay2_apply, k1_pay7_apply, Finset.sum_range_succ, Finset.sum_range_one, add_add_add_comm]
  congr 1
  unfold gQ gS lanes
  rw [← Nat.add_assoc 352, show c * 32 + (0 * 16 + j.val) = 32 * c + j.val by omega, show c * 32 + (1 * 16 + j.val) = 32 * c + 16 + j.val by omega]
  rfl

theorem row_apply (w k r : ℕ) (a : FVec Ideal S16 .f32 × FVec Ideal S16 .f32) (j : Fin 16) (n : ℕ) :
    pairAt (rowAcc (F := Ideal) x t w k r n a) j
      = pairAt a j + ∑ c ∈ Finset.range n, ∑ h ∈ Finset.range 2, gQ x t (5 * w + k) r (c * 32 + (h * 16 + j.val)) := by
  induction n with
  | zero => rw [Finset.sum_range_zero, add_zero]; rfl
  | succ n ih => rw [Finset.sum_range_succ, ← add_assoc, ← ih]; exact step_apply x t w k r n _ j

theorem chunk_apply (w k : ℕ) (a : FVec Ideal S16 .f32 × FVec Ideal S16 .f32) (j : Fin 16) (n : ℕ) :
    pairAt (chunkAcc (F := Ideal) x t w k n a) j
      = pairAt a j + ∑ r ∈ Finset.range n, ∑ c ∈ Finset.range 16, ∑ h ∈ Finset.range 2, gQ x t (5 * w + k) r (c * 32 + (h * 16 + j.val)) := by
  induction n with
  | zero => rw [Finset.sum_range_zero, add_zero]; rfl
  | succ n ih => rw [Finset.sum_range_succ, ← add_assoc, ← ih]; exact row_apply x t w k n _ j 16

theorem tile_apply (w : ℕ) (j : Fin 16) (n : ℕ) :
    pairAt (tileAcc (F := Ideal) x t w n) j
      = ∑ k ∈ Finset.range n, ∑ r ∈ Finset.range 32, ∑ c ∈ Finset.range 16, ∑ h ∈ Finset.range 2, gQ x t (5 * w + k) r (c * 32 + (h * 16 + j.val)) := by
  induction n with
  | zero =>
    show k1_pay6 (F := Ideal) (ix1 j) + k1_pay6 (F := Ideal) (ix1 j) = _
    rw [k1_pay6_apply, Finset.sum_range_zero, add_zero]
  | succ n ih => rw [Finset.sum_range_succ, ← ih]; exact chunk_apply x t w n _ j 32

theorem scRes_apply (w : Fin 32) (j : Fin 16) : scRes (F := Ideal) x t (ix2 w j) = pairAt (tileAcc (F := Ideal) x t w.val 5) j := by
  have h : (fun | 0 => j : S16.Idx) = ix1 j := by
    funext a; match a with | ⟨0, _⟩ => rfl
  show tileVec (F := Ideal) x t w.val (fun | 0 => j) = _
  rw [h]
  exact k1_pay1_apply _ _ j

theorem sc_total : ∑ w : Fin 32, ∑ j : Fin 16, scRes (F := Ideal) x t (ix2 w j)
    = ∑ a ∈ Finset.range 10, ∑ b ∈ Finset.range 512, ∑ c ∈ Finset.range 512, gS x t (22 + a) b c := by
  -- a row's 512 columns: 16 steps of two vectors of 16 lanes
  have hcol : ∀ q r : ℕ, (∑ j ∈ Finset.range 16, ∑ c ∈ Finset.range 16, ∑ h ∈ Finset.range 2, gQ x t q r (c * 32 + (h * 16 + j)))
      = ∑ l ∈ Finset.range 512, gQ x t q r l := by
    intro q r
    rw [Finset.sum_comm, show (512 : ℕ) = 16 * 32 from rfl, sum_runs]
    refine Finset.sum_congr rfl fun c _ => ?_
    rw [Finset.sum_comm, show (32 : ℕ) = 2 * 16 from rfl, sum_runs]
  have hw : ∀ w : ℕ, (∑ j ∈ Finset.range 16, ∑ k ∈ Finset.range 5, ∑ r ∈ Finset.range 32, ∑ c ∈ Finset.range 16, ∑ h ∈ Finset.range 2,
        gQ x t (5 * w + k) r (c * 32 + (h * 16 + j)))
      = ∑ k ∈ Finset.range 5, ∑ r ∈ Finset.range 32, ∑ l ∈ Finset.range 512, gQ x t (w * 5 + k) r l := by
    intro w
    rw [Finset.sum_comm, Nat.mul_comm 5 w]
    refine Finset.sum_congr rfl fun k _ => ?_
    rw [Finset.sum_comm]
    exact Finset.sum_congr rfl fun r _ => hcol _ r
  simp only [scRes_apply, tile_apply]
  have e1 : ∀ w : ℕ, (∑ j : Fin 16, ∑ k ∈ Finset.range 5, ∑ r ∈ Finset.range 32, ∑ c ∈ Finset.range 16, ∑ h ∈ Finset.range 2,
        gQ x t (5 * w + k) r (c * 32 + (h * 16 + j.val))) = ∑ k ∈ Finset.range 5, ∑ r ∈ Finset.range 32, ∑ l ∈ Finset.range 512, gQ x t (w * 5 + k) r l :=
    fun w => (Finset.sum_range (n := 16) (fun j => ∑ k ∈ Finset.range 5, ∑ r ∈ Finset.range 32, ∑ c ∈ Finset.range 16, ∑ h ∈ Finset.range 2,
        gQ x t (5 * w + k) r (c * 32 + (h * 16 + j)))).symm.trans (hw w)
  simp only [e1]
  rw [← Finset.sum_range (n := 32) (fun w => ∑ k ∈ Finset.range 5, ∑ r ∈ Finset.range 32, ∑ l ∈ Finset.range 512, gQ x t (w * 5 + k) r l)]
  rw [← sum_runs (fun q => ∑ r ∈ Finset.range 32, ∑ l ∈ Finset.range 512, gQ x t q r l) 32 5, show 32 * 5 = 10 * 16 from rfl, sum_runs]
  refine Finset.sum_congr rfl fun a _ => ?_
  rw [show (512 : ℕ) = 16 * 32 from rfl, sum_runs]
  refine Finset.sum_congr rfl fun s hs => ?_
  refine Finset.sum_congr rfl fun r _ => Finset.sum_congr rfl fun l _ => ?_
  have hs' := Finset.mem_range.mp hs
  unfold gQ
  rw [show (352 + (a * 16 + s)) / 16 = 22 + a by omega, show (352 + (a * 16 + s)) % 16 = s by omega]

/-! ## The whole -/

/-- The sum of the losses over all 32 images. -/
def total : EReal :=
  (∑ a ∈ Finset.range 10, ∑ b ∈ Finset.range 512, ∑ c ∈ Finset.range 512, gS x t (22 + a) b c)
    + ∑ a ∈ Finset.range 22, ∑ b ∈ Finset.range 512, ∑ c ∈ Finset.range 512, gT x t a b c

theorem outVal_apply (j : S_.Idx) : outVal (F := Ideal) x t j = total x t * Ideal.ofBits .f32 0x31CCCCCD#32 := by
  pointwise [outVal]
  rw [sc_total, tc_total]
  rfl

end Cert.Proof.KI

end
-- ==== Proof.RefVal.lean ====
/-
  The reference's result over the extended reals, read element by element.
-/
module

public import proofs.«01_k».proof.Proof.Gen.ReferenceIdeal
public import Idealize.ShloMosaic.Lib.Pointwise
public import Idealize.ShloMosaic.Lib.IdealHost
public import proofs.«01_k».proof.Proof.Scalars

@[expose] public section

noncomputable section

namespace Cert.Proof.RI

open Cert.ReferenceIdeal Cert.ReferenceIdeal.Gen
open Idealize.ShloMosaic
open scoped BigOperators

variable (x t : FVec Ideal S32x512x512 .f32)

/-- The mask: which labels are not the ignored one. -/
def refMask : FVec Ideal S32x512x512 .f32 :=
  (uitofp .f32 (cmpf .une t (broadcastInDim S32x512x512 ![] bcast_S_S32x512x512 (constant S_ .f32 0x437F0000#32))))

/-- The weighted losses, element by element. -/
def refLoss : FVec Ideal S32x512x512 .f32 :=
  (addf (mulf (subf (broadcastInDim S32x512x512 ![] bcast_S_S32x512x512 (constant S_ .f32 0x3F800000#32)) t) x) (mulf (addf (mulf (broadcastInDim S32x512x512 ![] bcast_S_S32x512x512 (constant S_ .f32 0x41980000#32)) t) (subf (broadcastInDim S32x512x512 ![] bcast_S_S32x512x512 (constant S_ .f32 0x3F800000#32)) t)) (select (cmpi .slt (iotaInDim S32x512x512 32 0) (broadcastInDim S32x512x512 ![] bcast_S_S32x512x512 (constantI S_ 32 22#32))) (select (cmpf .une (subf (Host.negf x) (broadcastInDim S32x512x512 ![] bcast_S_S32x512x512 (constant S_ .f32 0x00000000#32))) (subf (Host.negf x) (broadcastInDim S32x512x512 ![] bcast_S_S32x512x512 (constant S_ .f32 0x00000000#32)))) (addf (Host.negf x) (broadcastInDim S32x512x512 ![] bcast_S_S32x512x512 (constant S_ .f32 0x00000000#32))) (addf (maximumf (Host.negf x) (broadcastInDim S32x512x512 ![] bcast_S_S32x512x512 (constant S_ .f32 0x00000000#32))) (Host.log1p (Host.exp (Host.negf (Host.absf (subf (Host.negf x) (broadcastInDim S32x512x512 ![] bcast_S_S32x512x512 (constant S_ .f32 0x00000000#32))))))))) (addf (maximumf (Host.negf x) (broadcastInDim S32x512x512 ![] bcast_S_S32x512x512 (constant S_ .f32 0x00000000#32))) (addf (subf (addf (broadcastInDim S32x512x512 ![] bcast_S_S32x512x512 (constant S_ .f32 0x3A727DDB#32)) (mulf (broadcastInDim S32x512x512 ![] bcast_S_S32x512x512 (constant S_ .f32 0x3F7AD11F#32)) (Host.exp (Host.negf (Host.absf x))))) (mulf (broadcastInDim S32x512x512 ![] bcast_S_S32x512x512 (constant S_ .f32 0x3EC97D86#32)) (mulf (Host.exp (Host.negf (Host.absf x))) (Host.exp (Host.negf (Host.absf x)))))) (mulf (broadcastInDim S32x512x512 ![] bcast_S_S32x512x512 (constant S_ .f32 0x3DDA7D86#32)) (mulf (mulf (Host.exp (Host.negf (Host.absf x))) (Host.exp (Host.negf (Host.absf x)))) (Host.exp (Host.negf (Host.absf x))))))))))

/-- The whole result. -/
def refVal : S_.Idx → Elt Ideal .f32 :=
  mulf (Host.divf (Host.reduceAdd (mulf (refLoss x t) (refMask t)) (constant S_ .f32 0x00000000#32) reducesTo_S32x512x512_S_d0_1_2 h_S_) (maximumf (Host.reduceAdd (refMask t) (constant S_ .f32 0x00000000#32) reducesTo_S32x512x512_S_d0_1_2 h_S_) (constant S_ .f32 0x3F800000#32))) (constant S_ .f32 0x3D4CCCCD#32)

theorem refLoss_apply (a : Fin 32) (b c : Fin 512) : refLoss x t (ix3 a b c) = refElt (x (ix3 a b c)) (t (ix3 a b c))
    (Scalar.select (IntOp.cmpi CmpIPredicate.slt (BitVec.ofNat 32 ↑a) 22#32) (refSoft (x (ix3 a b c))) (refCub (x (ix3 a b c)))) := by
  pointwise [refLoss, refElt, refSoft, refCub]

theorem refMask_apply (i : S32x512x512.Idx) : refMask t i = FloatOps.uitofp (F := Ideal) .f32 (BitVec.ofBool (decide (t i ≠ Ideal.ofBits .f32 0x437F0000#32))) := by
  pointwise [refMask]

/-- The host's sum of a whole array, from zero. -/
theorem host_total (v : FVec Ideal S32x512x512 .f32) (j : S_.Idx) :
    Host.reduceAdd v (constant S_ .f32 0x00000000#32) reducesTo_S32x512x512_S_d0_1_2 h_S_ j
      = ∑ a : Fin 32, ∑ b : Fin 512, ∑ c : Fin 512, (v (ix3 a b c) : EReal) := by
  refine (Ideal.hostReduceAdd_r3_a012 reducesTo_S32x512x512_S_d0_1_2 v (Ideal.ofBits .f32 0x00000000#32) j).trans ?_
  rw [show Ideal.ofBits .f32 0x00000000#32 = 0 by simp [Ideal.ofBits, Ideal.ieee], zero_add]

theorem mulf_at {s : Shape} (v w : FVec Ideal s .f32) (i : s.Idx) : mulf v w i = (v i : EReal) * (w i : EReal) := rfl
theorem divf_at {s : Shape} (v w : FVec Ideal s .f32) (i : s.Idx) : Host.divf v w i = Ideal.div (v i) (w i) := rfl
theorem maximumf_at {s : Shape} (v w : FVec Ideal s .f32) (i : s.Idx) : maximumf v w i = max (v i : EReal) (w i : EReal) := rfl
theorem constant_at {s : Shape} (b : BitVec 32) (i : s.Idx) : constant (F := Ideal) s .f32 b i = Ideal.ofBits .f32 b := rfl

theorem refVal_apply (j : S_.Idx) : refVal x t j = Ideal.div (∑ a : Fin 32, ∑ b : Fin 512, ∑ c : Fin 512, (refLoss x t (ix3 a b c) : EReal) * (refMask t (ix3 a b c) : EReal))
        (max (∑ a : Fin 32, ∑ b : Fin 512, ∑ c : Fin 512, (refMask t (ix3 a b c) : EReal)) 1) * Ideal.ofBits .f32 0x3D4CCCCD#32 := by
  unfold refVal
  rw [mulf_at, divf_at, maximumf_at, constant_at, constant_at, host_total, host_total, Ideal.ofBits_one_f32]
  simp only [mulf_at]

end Cert.Proof.RI

end
-- ==== Proof.PreVal.lean ====
/-
  The precondition, read element by element.
-/
module

public import proofs.«01_k».proof.Proof.Gen.Pre_binary_labels
public import Idealize.ShloMosaic.Lib.Pointwise
public import Idealize.ShloMosaic.Lib.IdealHost
public import proofs.«01_k».proof.Proof.Scalars

@[expose] public section

noncomputable section

namespace Cert.Proof

open Cert.Pre_binary_labels Cert.Pre_binary_labels.Gen
open Idealize.ShloMosaic

/-- Two bits whose conjunction is one are one. -/
theorem andi_one {a b : BitVec 1} (h : IntOp.andi a b = 1#1) : a = 1#1 ∧ b = 1#1 := by
  revert a b; decide

theorem ori_one {a b : BitVec 1} (h : IntOp.ori a b = 1#1) : a = 1#1 ∨ b = 1#1 := by
  revert a b; decide

theorem ofBool_one {p : Prop} [Decidable p] (h : BitVec.ofBool (decide p) = 1#1) : p := by
  by_cases hp : p
  · exact hp
  · rw [decide_eq_false hp] at h; exact absurd h (by decide)

/-- Where the precondition holds the label is zero or one and the output is a real number. -/
theorem pre_apply (x t : FVec Ideal S32x512x512 .f32) (i : S32x512x512.Idx)
    (h : Cert.Pre_binary_labels.fn x t i = 1#1) : (t i = (0 : EReal) ∨ t i = (1 : EReal)) ∧ ∃ r : ℝ, x i = (r : EReal) := by
  have e : Cert.Pre_binary_labels.fn x t i = IntOp.andi (IntOp.ori (BitVec.ofBool (decide (t i = (0 : EReal)))) (BitVec.ofBool (decide (t i = (1 : EReal)))))
        (BitVec.ofBool (decide (FloatOps.absf (x i) < Ideal.ofBits FTy.f32 0x7F800000#32))) := by
    pointwise [Cert.Pre_binary_labels.fn]
  rw [e] at h
  obtain ⟨h1, h2⟩ := andi_one h
  refine ⟨(ori_one h1).imp ofBool_one ofBool_one, ?_⟩
  have h3 : max (x i : EReal) (-(x i : EReal)) < ⊤ := by
    have := ofBool_one h2
    rwa [lit_top] at this
  have ht : (x i : EReal) ≠ ⊤ := fun e => by rw [e] at h3; exact absurd h3 (by simp)
  have hb : (x i : EReal) ≠ ⊥ := fun e => by rw [e] at h3; exact absurd h3 (by simp)
  exact ⟨EReal.toReal (x i), (EReal.coe_toReal ht hb).symm⟩

end Cert.Proof

end
-- ==== Proof.Sums.lean ====
/-
  The two totals over the reals: where the labels are binary the kernel's total and the reference's are one sum.
-/
module

public import proofs.«01_k».proof.Proof.Total
public import proofs.«01_k».proof.Proof.RefVal
public import proofs.«01_k».proof.Proof.PreVal

@[expose] public section

noncomputable section

namespace Cert.Proof

open Cert.KernelIdeal
open Idealize.ShloMosaic
open Cert.Proof.KI Cert.Proof.RI
open scoped BigOperators

variable (x t : FVec Ideal S32x512x512 .f32)

/-- What the precondition says of the arrays. -/
def Good : Prop := ∀ i, (t i = (0 : EReal) ∨ t i = (1 : EReal)) ∧ ∃ r : ℝ, x i = (r : EReal)

theorem good_of_pre (h : Cert.Pre_binary_labels.fn x t = fun _ => 1#1) : Good x t := fun i => pre_apply x t i (congrFun h i)

open Classical in
/-- One element's loss over the reals, from the logarithm term's function `p`. -/
def realLoss (p : ℝ → ℝ) (i : S32x512x512.Idx) : ℝ :=
  if t i = (0 : EReal) then lossZero (EReal.toReal (x i)) (p (EReal.toReal (x i))) else lossOne (EReal.toReal (x i)) (p (EReal.toReal (x i)))

/-- The logarithm term an image's losses take. -/
def imgTerm (a : ℕ) : ℝ → ℝ := if a < 22 then lnTerm else cubTerm

/-- The sum of all losses over the reals, the logarithm term's function chosen by image. -/
def realSum (p : ℕ → ℝ → ℝ) : ℝ := ∑ a : Fin 32, ∑ b : Fin 512, ∑ c : Fin 512, realLoss x t (p a) (ValueIdx.ix3 a b c)

variable {x t}

theorem real_cases (h : Good x t) (i : S32x512x512.Idx) (P : EReal → EReal → ℝ → Prop) (p : ℝ → ℝ)
    (h0 : ∀ r : ℝ, P r 0 (lossZero r (p r))) (h1 : ∀ r : ℝ, P r 1 (lossOne r (p r))) : P (x i) (t i) (realLoss x t p i) := by
  obtain ⟨ht, r, hr⟩ := h i
  unfold realLoss
  rw [hr, EReal.toReal_coe]
  rcases ht with e | e
  · rw [if_pos e, e]; exact h0 r
  · rw [if_neg (by rw [e]; exact one_ne_zero), e]; exact h1 r

theorem tc_real (h : Good x t) (i : S32x512x512.Idx) : tcElt (x i) (t i) = ((realLoss x t lnTerm i : ℝ) : EReal) :=
  real_cases h i (fun a b v => tcElt a b = (v : EReal)) lnTerm tcElt_zero tcElt_one

theorem sc_real (h : Good x t) (i : S32x512x512.Idx) : scElt (x i) (t i) = ((realLoss x t cubTerm i : ℝ) : EReal) :=
  real_cases h i (fun a b v => scElt a b = (v : EReal)) cubTerm scElt_zero scElt_one

theorem ref_real_ln (h : Good x t) (i : S32x512x512.Idx) : refElt (x i) (t i) (refSoft (x i)) = ((realLoss x t lnTerm i : ℝ) : EReal) :=
  real_cases h i (fun a b v => refElt a b (refSoft a) = (v : EReal)) lnTerm
    (fun r => by rw [refSoft_coe, refElt_zero]) (fun r => by rw [refSoft_coe, refElt_one])

theorem ref_real_cub (h : Good x t) (i : S32x512x512.Idx) : refElt (x i) (t i) (refCub (x i)) = ((realLoss x t cubTerm i : ℝ) : EReal) :=
  real_cases h i (fun a b v => refElt a b (refCub a) = (v : EReal)) cubTerm
    (fun r => by rw [refCub_coe, refElt_zero]) (fun r => by rw [refCub_coe, refElt_one])

/-- A finite sum of reals in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum3 (f : Fin 32 → Fin 512 → Fin 512 → ℝ) :
    ((∑ a, ∑ b, ∑ c, f a b c : ℝ) : EReal) = ∑ a, ∑ b, ∑ c, (f a b c : EReal) := by
  rw [coe_sum]
  refine Finset.sum_congr rfl fun a _ => ?_
  rw [coe_sum]
  exact Finset.sum_congr rfl fun b _ => coe_sum _ _

/-- An element at in-range indices. -/
theorem at3_fin (v : FVec Ideal S32x512x512 .f32) (a : Fin 32) (b c : Fin 512) : at3 (F := Ideal) v a b c = v (ValueIdx.ix3 a b c) :=
  at3_eq (F := Ideal) v _ _ _ _ rfl rfl rfl

/-- The kernel's total is the sum over the reals. -/
theorem total_real (h : Good x t) : total x t = ((realSum x t imgTerm : ℝ) : EReal) := by
  have e : total x t = ∑ a ∈ Finset.range 32, ∑ b ∈ Finset.range 512, ∑ c ∈ Finset.range 512, (if a < 22 then gT x t a b c else gS x t a b c) := by
    rw [show (32 : ℕ) = 22 + 10 from rfl, Finset.sum_range_add, add_comm]
    unfold total
    refine congrArg₂ (· + ·) ?_ ?_
    · refine Finset.sum_congr rfl fun a _ => Finset.sum_congr rfl fun b _ => Finset.sum_congr rfl fun c _ => ?_
      rw [if_neg (by omega)]
    · refine Finset.sum_congr rfl fun a ha => Finset.sum_congr rfl fun b _ => Finset.sum_congr rfl fun c _ => ?_
      rw [if_pos (Finset.mem_range.mp ha)]
  rw [e, Finset.sum_range]
  unfold realSum
  rw [coe_sum3]
  refine Finset.sum_congr rfl fun a _ => ?_
  rw [Finset.sum_range]
  refine Finset.sum_congr rfl fun b _ => ?_
  rw [Finset.sum_range]
  refine Finset.sum_congr rfl fun c _ => ?_
  unfold imgTerm gT gS
  rw [at3_fin, at3_fin]
  by_cases ha : a.val < 22
  · rw [if_pos ha, if_pos ha, tc_real h]
  · rw [if_neg ha, if_neg ha, sc_real h]

theorem slt_22 (a : Fin 32) : IntOp.cmpi CmpIPredicate.slt (BitVec.ofNat 32 ↑a) 22#32 = if a.val < 22 then 1#1 else 0#1 := by
  revert a; decide

/-- The reference's losses are the reals'. -/
theorem refLoss_real (h : Good x t) (a : Fin 32) (b c : Fin 512) :
    refLoss x t (ValueIdx.ix3 a b c) = ((realLoss x t (imgTerm a) (ValueIdx.ix3 a b c) : ℝ) : EReal) := by
  refine (refLoss_apply x t a b c).trans ?_
  rw [slt_22]
  unfold imgTerm
  by_cases ha : a.val < 22
  · rw [if_pos ha, if_pos ha]; exact ref_real_ln h _
  · rw [if_neg ha, if_neg ha]; exact ref_real_cub h _

theorem refMask_real (h : Good x t) (i : S32x512x512.Idx) : refMask t i = (1 : EReal) := by
  refine (refMask_apply t i).trans (mask_one (h i).1)

theorem ones : (∑ a : Fin 32, ∑ b : Fin 512, ∑ c : Fin 512, (1 : EReal)) = ((8388608 : ℝ) : EReal) := by
  have := coe_sum3 (fun _ _ _ => (1 : ℝ))
  rw [EReal.coe_one] at this
  rw [← this]
  congr 1
  simp only [Finset.sum_const, Finset.card_univ, Fintype.card_fin, nsmul_eq_mul]
  norm_num

theorem max_ones : max ((8388608 : ℝ) : EReal) 1 = ((8388608 : ℝ) : EReal) := by
  rw [← EReal.coe_one, ← coe_max]; congr 1; norm_num

/-- The reference's value over the reals. -/
theorem refVal_real (h : Good x t) (j : S_.Idx) :
    refVal x t j = ((realSum x t imgTerm * (1 / 8388608) * (13421773 / 2 ^ 28) : ℝ) : EReal) := by
  refine (refVal_apply x t j).trans ?_
  have e1 : (∑ a : Fin 32, ∑ b : Fin 512, ∑ c : Fin 512, (refLoss x t (ValueIdx.ix3 a b c) : EReal) * (refMask t (ValueIdx.ix3 a b c) : EReal))
      = ((realSum x t imgTerm : ℝ) : EReal) := by
    unfold realSum
    rw [coe_sum3]
    refine Finset.sum_congr rfl fun a _ => Finset.sum_congr rfl fun b _ => Finset.sum_congr rfl fun c _ => ?_
    rw [refLoss_real h, refMask_real h, mul_one]
  have e2 : (∑ a : Fin 32, ∑ b : Fin 512, ∑ c : Fin 512, (refMask t (ValueIdx.ix3 a b c) : EReal)) = ((8388608 : ℝ) : EReal) := by
    rw [← ones]
    exact Finset.sum_congr rfl fun a _ => Finset.sum_congr rfl fun b _ => Finset.sum_congr rfl fun c _ => refMask_real h _
  refine (congrArg₂ (fun A B => Ideal.div A (max B 1) * Ideal.ofBits .f32 0x3D4CCCCD#32) e1 e2).trans ?_
  show Ideal.div _ (max _ 1) * _ = _
  rw [max_ones, lit_05, Ideal.div_coe (by norm_num), ← EReal.coe_mul, ← EReal.coe_mul]

/-- The kernel's value over the reals. -/
theorem outVal_real (h : Good x t) (j : S_.Idx) : outVal (F := Ideal) x t j = ((realSum x t imgTerm * (13421773 / 2 ^ 51) : ℝ) : EReal) := by
  rw [outVal_apply, total_real h, lit_scale, EReal.coe_mul]

/-- The two values are one. -/
theorem values_agree (h : Good x t) : refVal x t = outVal (F := Ideal) x t := by
  funext j
  rw [refVal_real h, outVal_real h]
  congr 1
  ring

end Cert.Proof

end
-- ==== Proof.Close.lean ====
/-
  How near the kernel's sum lies to the exact loss's, over the reals.
-/
module

public import proofs.«01_k».proof.Proof.Bound
public import proofs.«01_k».proof.Proof.Sums

@[expose] public section

noncomputable section

namespace Cert.Proof

open Cert.KernelIdeal
open Idealize.ShloMosaic
open scoped BigOperators

variable (x t : FVec Ideal S32x512x512 .f32)

/-- One element's two losses differ by at most nineteen thousandths. -/
theorem elt_bound (i : S32x512x512.Idx) : |realLoss x t cubTerm i - realLoss x t lnTerm i| ≤ 19 / 1000 := by
  have h := term_bound (EReal.toReal (x i))
  rw [abs_le] at h ⊢
  unfold realLoss
  split
  · unfold lossZero; constructor <;> linarith [h.1, h.2]
  · unfold lossOne; constructor <;> linarith [h.1, h.2]

/-- The exact sum. -/
def exactSum : ℝ := realSum x t fun _ => lnTerm

/-- An image's bound: the first 22 take the logarithm itself. -/
def imgBound (a : ℕ) : ℝ := if a < 22 then 0 else 19 / 1000

theorem img_bound (a : ℕ) (i : S32x512x512.Idx) : |realLoss x t (imgTerm a) i - realLoss x t lnTerm i| ≤ imgBound a := by
  unfold imgTerm imgBound
  by_cases h : a < 22
  · rw [if_pos h, if_pos h, sub_self, abs_zero]
  · rw [if_neg h, if_neg h]; exact elt_bound x t i

theorem sum_bound : |realSum x t imgTerm - exactSum x t| ≤ 10 * (512 * (512 * (19 / 1000))) := by
  have e : (∑ a : Fin 32, ∑ b : Fin 512, ∑ c : Fin 512, imgBound a) = 10 * (512 * (512 * (19 / 1000))) := by
    simp only [Finset.sum_const, Finset.card_univ, Fintype.card_fin, nsmul_eq_mul]
    rw [← Finset.mul_sum, ← Finset.mul_sum]
    have : (∑ a : Fin 32, imgBound a) = 10 * (19 / 1000) := by
      unfold imgBound
      simp [Fin.sum_univ_succ]
      norm_num
    rw [this]; norm_num
  rw [← e]
  unfold exactSum realSum
  rw [← Finset.sum_sub_distrib]
  refine (Finset.abs_sum_le_sum_abs _ _).trans (Finset.sum_le_sum fun a _ => ?_)
  rw [← Finset.sum_sub_distrib]
  refine (Finset.abs_sum_le_sum_abs _ _).trans (Finset.sum_le_sum fun b _ => ?_)
  rw [← Finset.sum_sub_distrib]
  exact (Finset.abs_sum_le_sum_abs _ _).trans (Finset.sum_le_sum fun c _ => img_bound x t a _)

/-- The scaled sums are within the tolerance. -/
theorem scaled_close (S L : ℝ) (h : |S - L| ≤ 10 * (512 * (512 * (19 / 1000)))) :
    |S * (13421773 / 2 ^ 51) - L * (1 / 8388608) * (1 / 20)| ≤ 10307922 / 2 ^ 35 + 8796093 / 2 ^ 43 * |L * (1 / 8388608) * (1 / 20)| := by
  have hL1 := le_abs_self (L * (1 / 8388608) * (1 / 20))
  have hL2 := neg_abs_le (L * (1 / 8388608) * (1 / 20))
  rw [abs_le] at h ⊢
  obtain ⟨h1, h2⟩ := h
  generalize |L * (1 / 8388608) * (1 / 20)| = A at hL1 hL2 ⊢
  norm_num at h1 h2 hL1 hL2 ⊢
  constructor <;> linarith

end Cert.Proof

end
-- ==== Proof.PostVal.lean ====
/-
  The postcondition's loss, which takes the logarithm for every image, over the reals; the kernel's result lies near it.
-/
module

public import proofs.«01_k».proof.Proof.Gen.Post_close
public import proofs.«01_k».proof.Proof.Close

@[expose] public section

noncomputable section

namespace Cert.Proof

open Cert.Post_close Cert.Post_close.Gen
open Idealize.ShloMosaic
open Cert.Proof.KI Cert.Proof.RI
open scoped BigOperators

variable (x t : FVec Ideal S32x512x512 .f32)

/-- The weighted losses of the postcondition. -/
def exactLoss : FVec Ideal S32x512x512 .f32 :=
  addf (mulf (subf (broadcastInDim S32x512x512 ![] bcast_S_S32x512x512 (constant S_ .f32 0x3F800000#32)) t) x)
    (mulf (addf (mulf (broadcastInDim S32x512x512 ![] bcast_S_S32x512x512 (constant S_ .f32 0x41980000#32)) t)
      (subf (broadcastInDim S32x512x512 ![] bcast_S_S32x512x512 (constant S_ .f32 0x3F800000#32)) t)) (fn_softplus (F := Ideal) (Host.negf x)))

/-- Its mask. -/
def exactMask : FVec Ideal S32x512x512 .f32 :=
  uitofp .f32 (cmpf .une t (broadcastInDim S32x512x512 ![] bcast_S_S32x512x512 (constant S_ .f32 0x437F0000#32)))

/-- Its loss. -/
def exactVal : FVec Ideal S_ .f32 :=
  Host.divf (Host.divf (Host.reduceAdd (mulf (exactLoss x t) (exactMask t)) (constant S_ .f32 0x00000000#32) reducesTo_S32x512x512_S_d0_1_2 h_S_)
    (maximumf (Host.reduceAdd (exactMask t) (constant S_ .f32 0x00000000#32) reducesTo_S32x512x512_S_d0_1_2 h_S_) (constant S_ .f32 0x3F800000#32)))
    (constant S_ .f32 0x41A00000#32)

/-- The postcondition as one comparison. -/
theorem post_form (r : FVec Ideal S_ .f32) : Cert.Post_close.fn x t r
    = cmpf .ole (Host.absf (subf r (exactVal x t))) (addf (constant S_ .f32 0x399D4952#32) (mulf (constant S_ .f32 0x358637BD#32) (Host.absf (exactVal x t)))) := rfl

theorem exactLoss_apply (a : Fin 32) (b c : Fin 512) :
    exactLoss x t (ix3 a b c) = refElt (x (ix3 a b c)) (t (ix3 a b c)) (refSoft (x (ix3 a b c))) := by
  pointwise [exactLoss, fn_softplus, refElt, refSoft]

theorem exactMask_apply (i : S32x512x512.Idx) :
    exactMask t i = FloatOps.uitofp (F := Ideal) .f32 (BitVec.ofBool (decide (t i ≠ Ideal.ofBits .f32 0x437F0000#32))) := by
  pointwise [exactMask]

/-- The host's sum of a whole array, from zero. -/
theorem post_total (v : FVec Ideal S32x512x512 .f32) (j : S_.Idx) :
    Host.reduceAdd v (constant S_ .f32 0x00000000#32) reducesTo_S32x512x512_S_d0_1_2 h_S_ j
      = ∑ a : Fin 32, ∑ b : Fin 512, ∑ c : Fin 512, (v (ix3 a b c) : EReal) := host_total v j

variable {x t}

/-- The postcondition's loss over the reals. -/
theorem exactVal_real (h : Good x t) (j : S_.Idx) : exactVal x t j = ((exactSum x t * (1 / 8388608) * (1 / 20) : ℝ) : EReal) := by
  unfold exactVal
  rw [divf_at, divf_at, maximumf_at, constant_at, constant_at, post_total, post_total, Ideal.ofBits_one_f32]
  have e1 : (∑ a : Fin 32, ∑ b : Fin 512, ∑ c : Fin 512, (mulf (exactLoss x t) (exactMask t) (ix3 a b c) : EReal)) = ((exactSum x t : ℝ) : EReal) := by
    unfold exactSum realSum
    rw [coe_sum3]
    refine Finset.sum_congr rfl fun a _ => Finset.sum_congr rfl fun b _ => Finset.sum_congr rfl fun c _ => ?_
    rw [mulf_at, exactLoss_apply, exactMask_apply, mask_one (h _).1, mul_one]
    exact ref_real_ln h _
  have e2 : (∑ a : Fin 32, ∑ b : Fin 512, ∑ c : Fin 512, (exactMask t (ix3 a b c) : EReal)) = ((8388608 : ℝ) : EReal) := by
    rw [← ones]
    exact Finset.sum_congr rfl fun a _ => Finset.sum_congr rfl fun b _ => Finset.sum_congr rfl fun c _ =>
      (exactMask_apply t _).trans (mask_one (h _).1)
  rw [e1, e2, max_ones, lit_20, Ideal.div_coe (by norm_num), Ideal.div_coe (by norm_num), ← EReal.coe_mul, ← EReal.coe_mul]

/-- The kernel's value meets the postcondition. -/
theorem close_value (h : Good x t) : Cert.Post_close.fn x t (outVal (F := Ideal) x t) = fun _ => 1#1 := by
  rw [post_form]
  funext j
  have e : ∀ v w d : FVec Ideal S_ .f32, cmpf .ole (Host.absf (subf v w)) (addf (constant S_ .f32 0x399D4952#32) (mulf (constant S_ .f32 0x358637BD#32) (Host.absf w))) j
      = BitVec.ofBool (decide (max ((v j : EReal) - w j) (-((v j : EReal) - w j))
          ≤ Ideal.ofBits .f32 0x399D4952#32 + Ideal.ofBits .f32 0x358637BD#32 * max (w j : EReal) (-(w j : EReal)))) := fun _ _ _ => rfl
  rw [e _ _ (exactVal x t), outVal_real h, exactVal_real h, lit_3e4, lit_1e6, ← EReal.coe_sub, coe_abs, coe_abs, ← EReal.coe_mul, ← EReal.coe_add,
    decide_eq_true (EReal.coe_le_coe_iff.mpr (scaled_close _ _ (sum_bound x t)))]
  rfl

end Cert.Proof

end
-- ==== Proof.Values.lean ====
/-
  The value claims: the kernel's result is the reference's, and it lies near the exact loss.
-/
module

public import proofs.«01_k».proof.Defs
public import proofs.«01_k».proof.Proof.Run
public import proofs.«01_k».proof.Proof.PostVal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

section
open Cert.ReferenceIdeal

set_option maxRecDepth 8192 in
set_option maxHeartbeats 4000000 in
/-- Every run of the reference: its result is `refVal` of its arguments. -/
theorem reference_run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v44) = RI.refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono (fun _ h c => ⟨(h c).1.trans rfl, (h c).2⟩)
    (Cert.ReferenceIdeal.Value.run (F := Ideal) m g)
end

theorem algebraic : Cert.algebraic_KernelIdeal_ReferenceIdeal_pre_binary_labels (hKernelIdeal := Cert.KernelIdeal.Gen.facts)
    (hReferenceIdeal := Cert.ReferenceIdeal.Gen.facts) (hPre_binary_labels := Cert.Pre_binary_labels.Gen.facts) := by
  intro m g m' g' hp hm
  refine ⟨fun c => KI.outVal (F := Ideal) (m (KI.xLoc c)) (m (KI.tLoc c)), ?_, ?_⟩
  · exact (θ_run (Cert.KernelIdeal.defs (F := Ideal)) _ _).mono (fun _ h c => ⟨(h.1 c).2.2, (h.1 c).1, (h.1 c).2.1⟩)
      (KI.run_main (F := Ideal) m g)
  · refine (θ_run (Cert.ReferenceIdeal.defs (F := Ideal)) _ _).mono (fun _ h c => ⟨(h c).1.trans ?_, (h c).2⟩) (reference_run m' g')
    rw [(hm c).1, (hm c).2]
    exact values_agree (good_of_pre _ _ (hp c))

theorem holds : Cert.holds_KernelIdeal_close_pre_binary_labels (hKernelIdeal := Cert.KernelIdeal.Gen.facts)
    (hPre_binary_labels := Cert.Pre_binary_labels.Gen.facts) (hPost_close := Cert.Post_close.Gen.facts) := by
  intro m g hp
  refine (θ_run (Cert.KernelIdeal.defs (F := Ideal)) _ _).mono (fun _ h c => ⟨(h.1 c).1, (h.1 c).2.1, ?_⟩) (KI.run_main (F := Ideal) m g)
  rw [(h.1 c).2.2]
  exact close_value (good_of_pre _ _ (hp c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_binary_labels
public import proofs.«01_k».proof.Proof.Gen.Post_close
public import proofs.«01_k».proof.Proof.FrameK
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- All the claims, from their parts. -/
theorem claim : Cert.Claim := ⟨Cert.Kernel.Gen.facts, Cert.KernelIdeal.Gen.facts, Cert.ReferenceIdeal.Gen.facts, Cert.Pre_binary_labels.Gen.facts, Cert.Post_close.Gen.facts,
  frame_kernel, frame_ideal, frame_ideal_pre, frame_reference, frame_reference_pre, trivial, algebraic, holds⟩

end Cert.Proof

end
